-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1, 1024]⟩ ⟨2, ![1, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1, 1024]⟩ ⟨2, ![1, 32768]⟩ 1 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 32768]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S2048x1024 .bf16) (main_arg1 : FVec F S1x1024 .bf16) (main_arg2 : FVec F S1x1024 .bf16) : IVec S_ 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .bf16 := Host.absf main_arg1
  let main_cst_0 : FVec F S_ .bf16 := constant S_ .bf16 0x7F80#16
  let main_v5 : FVec F S1x1024 .bf16 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  main_v8
-- ==== Pre_finite_ReferenceIdeal.lean ====
abbrev S2048x32768 : Shape := ⟨2, ![2048, 32768]⟩
abbrev S1x32768 : Shape := ⟨2, ![1, 32768]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel
  bcast_S_S1x32768 : S_.BroadcastsInDim S1x32768 (![] : Fin 0 → Fin S1x32768.rank)
  reducesTo_S1x32768_S_d0_1 : S1x32768.ReducesTo [0, 1] S_

variable [Facts]

def fn {F : FTy → Type} [FloatOps F] (main_arg0 : FVec F S2048x32768 .bf16) (main_arg1 : FVec F S1x32768 .bf16) (main_arg2 : FVec F S1x32768 .bf16) : IVec S_ 1 :=
  let main_v0 : FVec F S2048x32768 .bf16 := Host.absf main_arg0
  let main_cst : FVec F S_ .bf16 := constant S_ .bf16 0x7F80#16
  let main_v1 : FVec F S2048x32768 .bf16 := broadcastInDim S2048x32768 ![] bcast_S_S2048x32768 main_cst
  let main_v2 : IVec S2048x32768 1 := cmpf .olt main_v0 main_v1
  let main_c : IVec S_ 1 := constantI S_ 1 1#1
  let main_v3 : IVec S_ 1 := (fun x v => Host.reduce IntOp.andi x v reducesTo_S2048x32768_S_d0_1 h_S_) main_v2 main_c
  let main_v4 : FVec F S1x32768 .bf16 := Host.absf main_arg1
  let main_cst_0 : FVec F S_ .bf16 := constant S_ .bf16 0x7F80#16
  let main_v5 : FVec F S1x32768 .bf16 := broadcastInDim S1x32768 ![] bcast_S_S1x32768 main_cst_0
  let main_v6 : IVec S1x32768 1 := cmpf .olt main_v4 main_v5
  let main_c_1 : IVec S_ 1 := constantI S_ 1 1#1
  let main_v7 : IVec S_ 1 := (fun x v => Host.reduce IntOp.andi x v reducesTo_S1x32768_S_d0_1 h_S_) main_v6 main_c_1
  let main_v8 : IVec S_ 1 := andi main_v3 main_v7
  main_v8
-- ==== Kernel.lean ====
abbrev S2048x1024 : Shape := ⟨2, ![2048, 1024]⟩
abbrev S1x1024 : Shape := ⟨2, ![1, 1024]⟩
abbrev S32x32x128 : Shape := ⟨3, ![32, 32, 128]⟩
abbrev S32 : Shape := ⟨1, ![32]⟩
abbrev S_ : Shape := ⟨0, ![]⟩
abbrev S2048 : Shape := ⟨1, ![2048]⟩
abbrev S16x128 : Shape := ⟨2, ![16, 128]⟩
abbrev S1x16x128 : Shape := ⟨3, ![1, 16, 128]⟩
abbrev S1 : Shape := ⟨1, ![1]⟩
abbrev S1x32x128 : Shape := ⟨3, ![1, 32, 128]⟩
abbrev S32x128 : Shape := ⟨2, ![32, 128]⟩
abbrev S2048x16 : Shape := ⟨2, ![2048, 16]⟩
abbrev S2048x128 : Shape := ⟨2, ![2048, 128]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1x1024, .bf16⟩
  | .hbm, ⟨2, _⟩ => ⟨S1x1024, .bf16⟩
  | .hbm, ⟨3, _⟩ => ⟨S2048x1024, .bf16⟩
  | .local _ .vmem, ⟨0, _⟩ => ⟨S2048x1024, .bf16⟩
  | .local _ .vmem, ⟨1, _⟩ => ⟨S1x1024, .bf16⟩
  | .local _ .vmem, ⟨2, _⟩ => ⟨S1x1024, .bf16⟩
  | .local _ .vmem, ⟨3, _⟩ => ⟨S2048x1024, .bf16⟩
  | .local _ .vmem, ⟨4, _⟩ => ⟨S32x32x128, .bf16⟩
  | .local _ .vmem, ⟨5, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v17 : BitVec 32 := Scalar.addi v2 c31_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v30 : BitVec 32 := Scalar.addi v2 c2_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v43 : BitVec 32 := Scalar.addi v2 c30_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v56 : BitVec 32 := Scalar.addi v2 c3_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v69 : BitVec 32 := Scalar.addi v2 c29_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v82 : BitVec 32 := Scalar.addi v2 c4_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v95 : BitVec 32 := Scalar.addi v2 c28_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v108 : BitVec 32 := Scalar.addi v2 c5_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v121 : BitVec 32 := Scalar.addi v2 c27_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v134 : BitVec 32 := Scalar.addi v2 c6_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v147 : BitVec 32 := Scalar.addi v2 c26_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v160 : BitVec 32 := Scalar.addi v2 c7_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v173 : BitVec 32 := Scalar.addi v2 c25_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v186 : BitVec 32 := Scalar.addi v2 c8_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v199 : BitVec 32 := Scalar.addi v2 c24_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v212 : BitVec 32 := Scalar.addi v2 c9_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v225 : BitVec 32 := Scalar.addi v2 c23_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v238 : BitVec 32 := Scalar.addi v2 c10_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v251 : BitVec 32 := Scalar.addi v2 c22_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v264 : BitVec 32 := Scalar.addi v2 c11_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v277 : BitVec 32 := Scalar.addi v2 c21_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v290 : BitVec 32 := Scalar.addi v2 c12_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v303 : BitVec 32 := Scalar.addi v2 c20_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v316 : BitVec 32 := Scalar.addi v2 c13_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v329 : BitVec 32 := Scalar.addi v2 c19_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v342 : BitVec 32 := Scalar.addi v2 c14_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v355 : BitVec 32 := Scalar.addi v2 c18_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v368 : BitVec 32 := Scalar.addi v2 c15_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v381 : BitVec 32 := Scalar.addi v2 c17_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v394 : BitVec 32 := Scalar.addi v2 c16_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_287 : BitVec 32 := 1#32
  let v424 : BitVec 32 := Scalar.addi v2 c1_i32_287
  let c32_i32_288 : BitVec 32 := 32#32
  let c0_i32_289 : BitVec 32 := 0#32
  let v425 : BitVec 1 := Scalar.cmpi .eq c32_i32_288 c0_i32_289
  let c1_i32_290 : BitVec 32 := 1#32
  let v426 : BitVec 32 := Scalar.select v425 c1_i32_290 c32_i32_288
  let v427 : BitVec 32 := Scalar.remsi v424 v426
  let c0_i32_292 : BitVec 32 := 0#32
  let v429 : BitVec 1 := Scalar.cmpi .slt v427 c0_i32_292
  let c0_i32_293 : BitVec 32 := 0#32
  let v430 : BitVec 1 := Scalar.cmpi .slt v426 c0_i32_293
  let v431 : BitVec 1 := Scalar.xori v429 v430
  let c0_i32_291 : BitVec 32 := 0#32
  let v428 : BitVec 1 := Scalar.cmpi .ne v427 c0_i32_291
  let v432 : BitVec 1 := Scalar.andi v431 v428
  let v433 : BitVec 32 := Scalar.addi v427 v426
  let v434 : BitVec 32 := Scalar.select v432 v433 v427
  let c1_i32_298 : BitVec 32 := 1#32
  let v435 : BitVec 32 := Scalar.muli v434 c1_i32_298
  let v436 : BitVec 32 := Scalar.addi c0_i32_299 v435
  v436.toNat
def k0_dev33 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_304 : BitVec 32 := 31#32
  let v445 : BitVec 32 := Scalar.addi v2 c31_i32_304
  let c32_i32_305 : BitVec 32 := 32#32
  let c0_i32_306 : BitVec 32 := 0#32
  let v446 : BitVec 1 := Scalar.cmpi .eq c32_i32_305 c0_i32_306
  let c1_i32_307 : BitVec 32 := 1#32
  let v447 : BitVec 32 := Scalar.select v446 c1_i32_307 c32_i32_305
  let v448 : BitVec 32 := Scalar.remsi v445 v447
  let c0_i32_309 : BitVec 32 := 0#32
  let v450 : BitVec 1 := Scalar.cmpi .slt v448 c0_i32_309
  let c0_i32_310 : BitVec 32 := 0#32
  let v451 : BitVec 1 := Scalar.cmpi .slt v447 c0_i32_310
  let v452 : BitVec 1 := Scalar.xori v450 v451
  let c0_i32_308 : BitVec 32 := 0#32
  let v449 : BitVec 1 := Scalar.cmpi .ne v448 c0_i32_308
  let v453 : BitVec 1 := Scalar.andi v452 v449
  let v454 : BitVec 32 := Scalar.addi v448 v447
  let v455 : BitVec 32 := Scalar.select v453 v454 v448
  let c1_i32_315 : BitVec 32 := 1#32
  let v456 : BitVec 32 := Scalar.muli v455 c1_i32_315
  let v457 : BitVec 32 := Scalar.addi c0_i32_316 v456
  v457.toNat
def k0_dev34 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_321 : BitVec 32 := 2#32
  let v466 : BitVec 32 := Scalar.addi v2 c2_i32_321
  let c32_i32_322 : BitVec 32 := 32#32
  let c0_i32_323 : BitVec 32 := 0#32
  let v467 : BitVec 1 := Scalar.cmpi .eq c32_i32_322 c0_i32_323
  let c1_i32_324 : BitVec 32 := 1#32
  let v468 : BitVec 32 := Scalar.select v467 c1_i32_324 c32_i32_322
  let v469 : BitVec 32 := Scalar.remsi v466 v468
  let c0_i32_326 : BitVec 32 := 0#32
  let v471 : BitVec 1 := Scalar.cmpi .slt v469 c0_i32_326
  let c0_i32_327 : BitVec 32 := 0#32
  let v472 : BitVec 1 := Scalar.cmpi .slt v468 c0_i32_327
  let v473 : BitVec 1 := Scalar.xori v471 v472
  let c0_i32_325 : BitVec 32 := 0#32
  let v470 : BitVec 1 := Scalar.cmpi .ne v469 c0_i32_325
  let v474 : BitVec 1 := Scalar.andi v473 v470
  let v475 : BitVec 32 := Scalar.addi v469 v468
  let v476 : BitVec 32 := Scalar.select v474 v475 v469
  let c1_i32_332 : BitVec 32 := 1#32
  let v477 : BitVec 32 := Scalar.muli v476 c1_i32_332
  let v478 : BitVec 32 := Scalar.addi c0_i32_333 v477
  v478.toNat
def k0_dev35 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_338 : BitVec 32 := 30#32
  let v487 : BitVec 32 := Scalar.addi v2 c30_i32_338
  let c32_i32_339 : BitVec 32 := 32#32
  let c0_i32_340 : BitVec 32 := 0#32
  let v488 : BitVec 1 := Scalar.cmpi .eq c32_i32_339 c0_i32_340
  let c1_i32_341 : BitVec 32 := 1#32
  let v489 : BitVec 32 := Scalar.select v488 c1_i32_341 c32_i32_339
  let v490 : BitVec 32 := Scalar.remsi v487 v489
  let c0_i32_343 : BitVec 32 := 0#32
  let v492 : BitVec 1 := Scalar.cmpi .slt v490 c0_i32_343
  let c0_i32_344 : BitVec 32 := 0#32
  let v493 : BitVec 1 := Scalar.cmpi .slt v489 c0_i32_344
  let v494 : BitVec 1 := Scalar.xori v492 v493
  let c0_i32_342 : BitVec 32 := 0#32
  let v491 : BitVec 1 := Scalar.cmpi .ne v490 c0_i32_342
  let v495 : BitVec 1 := Scalar.andi v494 v491
  let v496 : BitVec 32 := Scalar.addi v490 v489
  let v497 : BitVec 32 := Scalar.select v495 v496 v490
  let c1_i32_349 : BitVec 32 := 1#32
  let v498 : BitVec 32 := Scalar.muli v497 c1_i32_349
  let v499 : BitVec 32 := Scalar.addi c0_i32_350 v498
  v499.toNat
def k0_dev36 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_355 : BitVec 32 := 3#32
  let v508 : BitVec 32 := Scalar.addi v2 c3_i32_355
  let c32_i32_356 : BitVec 32 := 32#32
  let c0_i32_357 : BitVec 32 := 0#32
  let v509 : BitVec 1 := Scalar.cmpi .eq c32_i32_356 c0_i32_357
  let c1_i32_358 : BitVec 32 := 1#32
  let v510 : BitVec 32 := Scalar.select v509 c1_i32_358 c32_i32_356
  let v511 : BitVec 32 := Scalar.remsi v508 v510
  let c0_i32_360 : BitVec 32 := 0#32
  let v513 : BitVec 1 := Scalar.cmpi .slt v511 c0_i32_360
  let c0_i32_361 : BitVec 32 := 0#32
  let v514 : BitVec 1 := Scalar.cmpi .slt v510 c0_i32_361
  let v515 : BitVec 1 := Scalar.xori v513 v514
  let c0_i32_359 : BitVec 32 := 0#32
  let v512 : BitVec 1 := Scalar.cmpi .ne v511 c0_i32_359
  let v516 : BitVec 1 := Scalar.andi v515 v512
  let v517 : BitVec 32 := Scalar.addi v511 v510
  let v518 : BitVec 32 := Scalar.select v516 v517 v511
  let c1_i32_366 : BitVec 32 := 1#32
  let v519 : BitVec 32 := Scalar.muli v518 c1_i32_366
  let v520 : BitVec 32 := Scalar.addi c0_i32_367 v519
  v520.toNat
def k0_dev37 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_372 : BitVec 32 := 29#32
  let v529 : BitVec 32 := Scalar.addi v2 c29_i32_372
  let c32_i32_373 : BitVec 32 := 32#32
  let c0_i32_374 : BitVec 32 := 0#32
  let v530 : BitVec 1 := Scalar.cmpi .eq c32_i32_373 c0_i32_374
  let c1_i32_375 : BitVec 32 := 1#32
  let v531 : BitVec 32 := Scalar.select v530 c1_i32_375 c32_i32_373
  let v532 : BitVec 32 := Scalar.remsi v529 v531
  let c0_i32_377 : BitVec 32 := 0#32
  let v534 : BitVec 1 := Scalar.cmpi .slt v532 c0_i32_377
  let c0_i32_378 : BitVec 32 := 0#32
  let v535 : BitVec 1 := Scalar.cmpi .slt v531 c0_i32_378
  let v536 : BitVec 1 := Scalar.xori v534 v535
  let c0_i32_376 : BitVec 32 := 0#32
  let v533 : BitVec 1 := Scalar.cmpi .ne v532 c0_i32_376
  let v537 : BitVec 1 := Scalar.andi v536 v533
  let v538 : BitVec 32 := Scalar.addi v532 v531
  let v539 : BitVec 32 := Scalar.select v537 v538 v532
  let c1_i32_383 : BitVec 32 := 1#32
  let v540 : BitVec 32 := Scalar.muli v539 c1_i32_383
  let v541 : BitVec 32 := Scalar.addi c0_i32_384 v540
  v541.toNat
def k0_dev38 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_389 : BitVec 32 := 4#32
  let v550 : BitVec 32 := Scalar.addi v2 c4_i32_389
  let c32_i32_390 : BitVec 32 := 32#32
  let c0_i32_391 : BitVec 32 := 0#32
  let v551 : BitVec 1 := Scalar.cmpi .eq c32_i32_390 c0_i32_391
  let c1_i32_392 : BitVec 32 := 1#32
  let v552 : BitVec 32 := Scalar.select v551 c1_i32_392 c32_i32_390
  let v553 : BitVec 32 := Scalar.remsi v550 v552
  let c0_i32_394 : BitVec 32 := 0#32
  let v555 : BitVec 1 := Scalar.cmpi .slt v553 c0_i32_394
  let c0_i32_395 : BitVec 32 := 0#32
  let v556 : BitVec 1 := Scalar.cmpi .slt v552 c0_i32_395
  let v557 : BitVec 1 := Scalar.xori v555 v556
  let c0_i32_393 : BitVec 32 := 0#32
  let v554 : BitVec 1 := Scalar.cmpi .ne v553 c0_i32_393
  let v558 : BitVec 1 := Scalar.andi v557 v554
  let v559 : BitVec 32 := Scalar.addi v553 v552
  let v560 : BitVec 32 := Scalar.select v558 v559 v553
  let c1_i32_400 : BitVec 32 := 1#32
  let v561 : BitVec 32 := Scalar.muli v560 c1_i32_400
  let v562 : BitVec 32 := Scalar.addi c0_i32_401 v561
  v562.toNat
def k0_dev39 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_406 : BitVec 32 := 28#32
  let v571 : BitVec 32 := Scalar.addi v2 c28_i32_406
  let c32_i32_407 : BitVec 32 := 32#32
  let c0_i32_408 : BitVec 32 := 0#32
  let v572 : BitVec 1 := Scalar.cmpi .eq c32_i32_407 c0_i32_408
  let c1_i32_409 : BitVec 32 := 1#32
  let v573 : BitVec 32 := Scalar.select v572 c1_i32_409 c32_i32_407
  let v574 : BitVec 32 := Scalar.remsi v571 v573
  let c0_i32_411 : BitVec 32 := 0#32
  let v576 : BitVec 1 := Scalar.cmpi .slt v574 c0_i32_411
  let c0_i32_412 : BitVec 32 := 0#32
  let v577 : BitVec 1 := Scalar.cmpi .slt v573 c0_i32_412
  let v578 : BitVec 1 := Scalar.xori v576 v577
  let c0_i32_410 : BitVec 32 := 0#32
  let v575 : BitVec 1 := Scalar.cmpi .ne v574 c0_i32_410
  let v579 : BitVec 1 := Scalar.andi v578 v575
  let v580 : BitVec 32 := Scalar.addi v574 v573
  let v581 : BitVec 32 := Scalar.select v579 v580 v574
  let c1_i32_417 : BitVec 32 := 1#32
  let v582 : BitVec 32 := Scalar.muli v581 c1_i32_417
  let v583 : BitVec 32 := Scalar.addi c0_i32_418 v582
  v583.toNat
def k0_dev40 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_423 : BitVec 32 := 5#32
  let v592 : BitVec 32 := Scalar.addi v2 c5_i32_423
  let c32_i32_424 : BitVec 32 := 32#32
  let c0_i32_425 : BitVec 32 := 0#32
  let v593 : BitVec 1 := Scalar.cmpi .eq c32_i32_424 c0_i32_425
  let c1_i32_426 : BitVec 32 := 1#32
  let v594 : BitVec 32 := Scalar.select v593 c1_i32_426 c32_i32_424
  let v595 : BitVec 32 := Scalar.remsi v592 v594
  let c0_i32_428 : BitVec 32 := 0#32
  let v597 : BitVec 1 := Scalar.cmpi .slt v595 c0_i32_428
  let c0_i32_429 : BitVec 32 := 0#32
  let v598 : BitVec 1 := Scalar.cmpi .slt v594 c0_i32_429
  let v599 : BitVec 1 := Scalar.xori v597 v598
  let c0_i32_427 : BitVec 32 := 0#32
  let v596 : BitVec 1 := Scalar.cmpi .ne v595 c0_i32_427
  let v600 : BitVec 1 := Scalar.andi v599 v596
  let v601 : BitVec 32 := Scalar.addi v595 v594
  let v602 : BitVec 32 := Scalar.select v600 v601 v595
  let c1_i32_434 : BitVec 32 := 1#32
  let v603 : BitVec 32 := Scalar.muli v602 c1_i32_434
  let v604 : BitVec 32 := Scalar.addi c0_i32_435 v603
  v604.toNat
def k0_dev41 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_440 : BitVec 32 := 27#32
  let v613 : BitVec 32 := Scalar.addi v2 c27_i32_440
  let c32_i32_441 : BitVec 32 := 32#32
  let c0_i32_442 : BitVec 32 := 0#32
  let v614 : BitVec 1 := Scalar.cmpi .eq c32_i32_441 c0_i32_442
  let c1_i32_443 : BitVec 32 := 1#32
  let v615 : BitVec 32 := Scalar.select v614 c1_i32_443 c32_i32_441
  let v616 : BitVec 32 := Scalar.remsi v613 v615
  let c0_i32_445 : BitVec 32 := 0#32
  let v618 : BitVec 1 := Scalar.cmpi .slt v616 c0_i32_445
  let c0_i32_446 : BitVec 32 := 0#32
  let v619 : BitVec 1 := Scalar.cmpi .slt v615 c0_i32_446
  let v620 : BitVec 1 := Scalar.xori v618 v619
  let c0_i32_444 : BitVec 32 := 0#32
  let v617 : BitVec 1 := Scalar.cmpi .ne v616 c0_i32_444
  let v621 : BitVec 1 := Scalar.andi v620 v617
  let v622 : BitVec 32 := Scalar.addi v616 v615
  let v623 : BitVec 32 := Scalar.select v621 v622 v616
  let c1_i32_451 : BitVec 32 := 1#32
  let v624 : BitVec 32 := Scalar.muli v623 c1_i32_451
  let v625 : BitVec 32 := Scalar.addi c0_i32_452 v624
  v625.toNat
def k0_dev42 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_457 : BitVec 32 := 6#32
  let v634 : BitVec 32 := Scalar.addi v2 c6_i32_457
  let c32_i32_458 : BitVec 32 := 32#32
  let c0_i32_459 : BitVec 32 := 0#32
  let v635 : BitVec 1 := Scalar.cmpi .eq c32_i32_458 c0_i32_459
  let c1_i32_460 : BitVec 32 := 1#32
  let v636 : BitVec 32 := Scalar.select v635 c1_i32_460 c32_i32_458
  let v637 : BitVec 32 := Scalar.remsi v634 v636
  let c0_i32_462 : BitVec 32 := 0#32
  let v639 : BitVec 1 := Scalar.cmpi .slt v637 c0_i32_462
  let c0_i32_463 : BitVec 32 := 0#32
  let v640 : BitVec 1 := Scalar.cmpi .slt v636 c0_i32_463
  let v641 : BitVec 1 := Scalar.xori v639 v640
  let c0_i32_461 : BitVec 32 := 0#32
  let v638 : BitVec 1 := Scalar.cmpi .ne v637 c0_i32_461
  let v642 : BitVec 1 := Scalar.andi v641 v638
  let v643 : BitVec 32 := Scalar.addi v637 v636
  let v644 : BitVec 32 := Scalar.select v642 v643 v637
  let c1_i32_468 : BitVec 32 := 1#32
  let v645 : BitVec 32 := Scalar.muli v644 c1_i32_468
  let v646 : BitVec 32 := Scalar.addi c0_i32_469 v645
  v646.toNat
def k0_dev43 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_474 : BitVec 32 := 26#32
  let v655 : BitVec 32 := Scalar.addi v2 c26_i32_474
  let c32_i32_475 : BitVec 32 := 32#32
  let c0_i32_476 : BitVec 32 := 0#32
  let v656 : BitVec 1 := Scalar.cmpi .eq c32_i32_475 c0_i32_476
  let c1_i32_477 : BitVec 32 := 1#32
  let v657 : BitVec 32 := Scalar.select v656 c1_i32_477 c32_i32_475
  let v658 : BitVec 32 := Scalar.remsi v655 v657
  let c0_i32_479 : BitVec 32 := 0#32
  let v660 : BitVec 1 := Scalar.cmpi .slt v658 c0_i32_479
  let c0_i32_480 : BitVec 32 := 0#32
  let v661 : BitVec 1 := Scalar.cmpi .slt v657 c0_i32_480
  let v662 : BitVec 1 := Scalar.xori v660 v661
  let c0_i32_478 : BitVec 32 := 0#32
  let v659 : BitVec 1 := Scalar.cmpi .ne v658 c0_i32_478
  let v663 : BitVec 1 := Scalar.andi v662 v659
  let v664 : BitVec 32 := Scalar.addi v658 v657
  let v665 : BitVec 32 := Scalar.select v663 v664 v658
  let c1_i32_485 : BitVec 32 := 1#32
  let v666 : BitVec 32 := Scalar.muli v665 c1_i32_485
  let v667 : BitVec 32 := Scalar.addi c0_i32_486 v666
  v667.toNat
def k0_dev44 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_491 : BitVec 32 := 7#32
  let v676 : BitVec 32 := Scalar.addi v2 c7_i32_491
  let c32_i32_492 : BitVec 32 := 32#32
  let c0_i32_493 : BitVec 32 := 0#32
  let v677 : BitVec 1 := Scalar.cmpi .eq c32_i32_492 c0_i32_493
  let c1_i32_494 : BitVec 32 := 1#32
  let v678 : BitVec 32 := Scalar.select v677 c1_i32_494 c32_i32_492
  let v679 : BitVec 32 := Scalar.remsi v676 v678
  let c0_i32_496 : BitVec 32 := 0#32
  let v681 : BitVec 1 := Scalar.cmpi .slt v679 c0_i32_496
  let c0_i32_497 : BitVec 32 := 0#32
  let v682 : BitVec 1 := Scalar.cmpi .slt v678 c0_i32_497
  let v683 : BitVec 1 := Scalar.xori v681 v682
  let c0_i32_495 : BitVec 32 := 0#32
  let v680 : BitVec 1 := Scalar.cmpi .ne v679 c0_i32_495
  let v684 : BitVec 1 := Scalar.andi v683 v680
  let v685 : BitVec 32 := Scalar.addi v679 v678
  let v686 : BitVec 32 := Scalar.select v684 v685 v679
  let c1_i32_502 : BitVec 32 := 1#32
  let v687 : BitVec 32 := Scalar.muli v686 c1_i32_502
  let v688 : BitVec 32 := Scalar.addi c0_i32_503 v687
  v688.toNat
def k0_dev45 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_508 : BitVec 32 := 25#32
  let v697 : BitVec 32 := Scalar.addi v2 c25_i32_508
  let c32_i32_509 : BitVec 32 := 32#32
  let c0_i32_510 : BitVec 32 := 0#32
  let v698 : BitVec 1 := Scalar.cmpi .eq c32_i32_509 c0_i32_510
  let c1_i32_511 : BitVec 32 := 1#32
  let v699 : BitVec 32 := Scalar.select v698 c1_i32_511 c32_i32_509
  let v700 : BitVec 32 := Scalar.remsi v697 v699
  let c0_i32_513 : BitVec 32 := 0#32
  let v702 : BitVec 1 := Scalar.cmpi .slt v700 c0_i32_513
  let c0_i32_514 : BitVec 32 := 0#32
  let v703 : BitVec 1 := Scalar.cmpi .slt v699 c0_i32_514
  let v704 : BitVec 1 := Scalar.xori v702 v703
  let c0_i32_512 : BitVec 32 := 0#32
  let v701 : BitVec 1 := Scalar.cmpi .ne v700 c0_i32_512
  let v705 : BitVec 1 := Scalar.andi v704 v701
  let v706 : BitVec 32 := Scalar.addi v700 v699
  let v707 : BitVec 32 := Scalar.select v705 v706 v700
  let c1_i32_519 : BitVec 32 := 1#32
  let v708 : BitVec 32 := Scalar.muli v707 c1_i32_519
  let v709 : BitVec 32 := Scalar.addi c0_i32_520 v708
  v709.toNat
def k0_dev46 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_525 : BitVec 32 := 8#32
  let v718 : BitVec 32 := Scalar.addi v2 c8_i32_525
  let c32_i32_526 : BitVec 32 := 32#32
  let c0_i32_527 : BitVec 32 := 0#32
  let v719 : BitVec 1 := Scalar.cmpi .eq c32_i32_526 c0_i32_527
  let c1_i32_528 : BitVec 32 := 1#32
  let v720 : BitVec 32 := Scalar.select v719 c1_i32_528 c32_i32_526
  let v721 : BitVec 32 := Scalar.remsi v718 v720
  let c0_i32_530 : BitVec 32 := 0#32
  let v723 : BitVec 1 := Scalar.cmpi .slt v721 c0_i32_530
  let c0_i32_531 : BitVec 32 := 0#32
  let v724 : BitVec 1 := Scalar.cmpi .slt v720 c0_i32_531
  let v725 : BitVec 1 := Scalar.xori v723 v724
  let c0_i32_529 : BitVec 32 := 0#32
  let v722 : BitVec 1 := Scalar.cmpi .ne v721 c0_i32_529
  let v726 : BitVec 1 := Scalar.andi v725 v722
  let v727 : BitVec 32 := Scalar.addi v721 v720
  let v728 : BitVec 32 := Scalar.select v726 v727 v721
  let c1_i32_536 : BitVec 32 := 1#32
  let v729 : BitVec 32 := Scalar.muli v728 c1_i32_536
  let v730 : BitVec 32 := Scalar.addi c0_i32_537 v729
  v730.toNat
def k0_dev47 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_542 : BitVec 32 := 24#32
  let v739 : BitVec 32 := Scalar.addi v2 c24_i32_542
  let c32_i32_543 : BitVec 32 := 32#32
  let c0_i32_544 : BitVec 32 := 0#32
  let v740 : BitVec 1 := Scalar.cmpi .eq c32_i32_543 c0_i32_544
  let c1_i32_545 : BitVec 32 := 1#32
  let v741 : BitVec 32 := Scalar.select v740 c1_i32_545 c32_i32_543
  let v742 : BitVec 32 := Scalar.remsi v739 v741
  let c0_i32_547 : BitVec 32 := 0#32
  let v744 : BitVec 1 := Scalar.cmpi .slt v742 c0_i32_547
  let c0_i32_548 : BitVec 32 := 0#32
  let v745 : BitVec 1 := Scalar.cmpi .slt v741 c0_i32_548
  let v746 : BitVec 1 := Scalar.xori v744 v745
  let c0_i32_546 : BitVec 32 := 0#32
  let v743 : BitVec 1 := Scalar.cmpi .ne v742 c0_i32_546
  let v747 : BitVec 1 := Scalar.andi v746 v743
  let v748 : BitVec 32 := Scalar.addi v742 v741
  let v749 : BitVec 32 := Scalar.select v747 v748 v742
  let c1_i32_553 : BitVec 32 := 1#32
  let v750 : BitVec 32 := Scalar.muli v749 c1_i32_553
  let v751 : BitVec 32 := Scalar.addi c0_i32_554 v750
  v751.toNat
def k0_dev48 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_559 : BitVec 32 := 9#32
  let v760 : BitVec 32 := Scalar.addi v2 c9_i32_559
  let c32_i32_560 : BitVec 32 := 32#32
  let c0_i32_561 : BitVec 32 := 0#32
  let v761 : BitVec 1 := Scalar.cmpi .eq c32_i32_560 c0_i32_561
  let c1_i32_562 : BitVec 32 := 1#32
  let v762 : BitVec 32 := Scalar.select v761 c1_i32_562 c32_i32_560
  let v763 : BitVec 32 := Scalar.remsi v760 v762
  let c0_i32_564 : BitVec 32 := 0#32
  let v765 : BitVec 1 := Scalar.cmpi .slt v763 c0_i32_564
  let c0_i32_565 : BitVec 32 := 0#32
  let v766 : BitVec 1 := Scalar.cmpi .slt v762 c0_i32_565
  let v767 : BitVec 1 := Scalar.xori v765 v766
  let c0_i32_563 : BitVec 32 := 0#32
  let v764 : BitVec 1 := Scalar.cmpi .ne v763 c0_i32_563
  let v768 : BitVec 1 := Scalar.andi v767 v764
  let v769 : BitVec 32 := Scalar.addi v763 v762
  let v770 : BitVec 32 := Scalar.select v768 v769 v763
  let c1_i32_570 : BitVec 32 := 1#32
  let v771 : BitVec 32 := Scalar.muli v770 c1_i32_570
  let v772 : BitVec 32 := Scalar.addi c0_i32_571 v771
  v772.toNat
def k0_dev49 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_576 : BitVec 32 := 23#32
  let v781 : BitVec 32 := Scalar.addi v2 c23_i32_576
  let c32_i32_577 : BitVec 32 := 32#32
  let c0_i32_578 : BitVec 32 := 0#32
  let v782 : BitVec 1 := Scalar.cmpi .eq c32_i32_577 c0_i32_578
  let c1_i32_579 : BitVec 32 := 1#32
  let v783 : BitVec 32 := Scalar.select v782 c1_i32_579 c32_i32_577
  let v784 : BitVec 32 := Scalar.remsi v781 v783
  let c0_i32_581 : BitVec 32 := 0#32
  let v786 : BitVec 1 := Scalar.cmpi .slt v784 c0_i32_581
  let c0_i32_582 : BitVec 32 := 0#32
  let v787 : BitVec 1 := Scalar.cmpi .slt v783 c0_i32_582
  let v788 : BitVec 1 := Scalar.xori v786 v787
  let c0_i32_580 : BitVec 32 := 0#32
  let v785 : BitVec 1 := Scalar.cmpi .ne v784 c0_i32_580
  let v789 : BitVec 1 := Scalar.andi v788 v785
  let v790 : BitVec 32 := Scalar.addi v784 v783
  let v791 : BitVec 32 := Scalar.select v789 v790 v784
  let c1_i32_587 : BitVec 32 := 1#32
  let v792 : BitVec 32 := Scalar.muli v791 c1_i32_587
  let v793 : BitVec 32 := Scalar.addi c0_i32_588 v792
  v793.toNat
def k0_dev50 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_593 : BitVec 32 := 10#32
  let v802 : BitVec 32 := Scalar.addi v2 c10_i32_593
  let c32_i32_594 : BitVec 32 := 32#32
  let c0_i32_595 : BitVec 32 := 0#32
  let v803 : BitVec 1 := Scalar.cmpi .eq c32_i32_594 c0_i32_595
  let c1_i32_596 : BitVec 32 := 1#32
  let v804 : BitVec 32 := Scalar.select v803 c1_i32_596 c32_i32_594
  let v805 : BitVec 32 := Scalar.remsi v802 v804
  let c0_i32_598 : BitVec 32 := 0#32
  let v807 : BitVec 1 := Scalar.cmpi .slt v805 c0_i32_598
  let c0_i32_599 : BitVec 32 := 0#32
  let v808 : BitVec 1 := Scalar.cmpi .slt v804 c0_i32_599
  let v809 : BitVec 1 := Scalar.xori v807 v808
  let c0_i32_597 : BitVec 32 := 0#32
  let v806 : BitVec 1 := Scalar.cmpi .ne v805 c0_i32_597
  let v810 : BitVec 1 := Scalar.andi v809 v806
  let v811 : BitVec 32 := Scalar.addi v805 v804
  let v812 : BitVec 32 := Scalar.select v810 v811 v805
  let c1_i32_604 : BitVec 32 := 1#32
  let v813 : BitVec 32 := Scalar.muli v812 c1_i32_604
  let v814 : BitVec 32 := Scalar.addi c0_i32_605 v813
  v814.toNat
def k0_dev51 (d0 : Dev nD) : Nat :=
  let c0_i32_622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_610 : BitVec 32 := 22#32
  let v823 : BitVec 32 := Scalar.addi v2 c22_i32_610
  let c32_i32_611 : BitVec 32 := 32#32
  let c0_i32_612 : BitVec 32 := 0#32
  let v824 : BitVec 1 := Scalar.cmpi .eq c32_i32_611 c0_i32_612
  let c1_i32_613 : BitVec 32 := 1#32
  let v825 : BitVec 32 := Scalar.select v824 c1_i32_613 c32_i32_611
  let v826 : BitVec 32 := Scalar.remsi v823 v825
  let c0_i32_615 : BitVec 32 := 0#32
  let v828 : BitVec 1 := Scalar.cmpi .slt v826 c0_i32_615
  let c0_i32_616 : BitVec 32 := 0#32
  let v829 : BitVec 1 := Scalar.cmpi .slt v825 c0_i32_616
  let v830 : BitVec 1 := Scalar.xori v828 v829
  let c0_i32_614 : BitVec 32 := 0#32
  let v827 : BitVec 1 := Scalar.cmpi .ne v826 c0_i32_614
  let v831 : BitVec 1 := Scalar.andi v830 v827
  let v832 : BitVec 32 := Scalar.addi v826 v825
  let v833 : BitVec 32 := Scalar.select v831 v832 v826
  let c1_i32_621 : BitVec 32 := 1#32
  let v834 : BitVec 32 := Scalar.muli v833 c1_i32_621
  let v835 : BitVec 32 := Scalar.addi c0_i32_622 v834
  v835.toNat
def k0_dev52 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_627 : BitVec 32 := 11#32
  let v844 : BitVec 32 := Scalar.addi v2 c11_i32_627
  let c32_i32_628 : BitVec 32 := 32#32
  let c0_i32_629 : BitVec 32 := 0#32
  let v845 : BitVec 1 := Scalar.cmpi .eq c32_i32_628 c0_i32_629
  let c1_i32_630 : BitVec 32 := 1#32
  let v846 : BitVec 32 := Scalar.select v845 c1_i32_630 c32_i32_628
  let v847 : BitVec 32 := Scalar.remsi v844 v846
  let c0_i32_632 : BitVec 32 := 0#32
  let v849 : BitVec 1 := Scalar.cmpi .slt v847 c0_i32_632
  let c0_i32_633 : BitVec 32 := 0#32
  let v850 : BitVec 1 := Scalar.cmpi .slt v846 c0_i32_633
  let v851 : BitVec 1 := Scalar.xori v849 v850
  let c0_i32_631 : BitVec 32 := 0#32
  let v848 : BitVec 1 := Scalar.cmpi .ne v847 c0_i32_631
  let v852 : BitVec 1 := Scalar.andi v851 v848
  let v853 : BitVec 32 := Scalar.addi v847 v846
  let v854 : BitVec 32 := Scalar.select v852 v853 v847
  let c1_i32_638 : BitVec 32 := 1#32
  let v855 : BitVec 32 := Scalar.muli v854 c1_i32_638
  let v856 : BitVec 32 := Scalar.addi c0_i32_639 v855
  v856.toNat
def k0_dev53 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_644 : BitVec 32 := 21#32
  let v865 : BitVec 32 := Scalar.addi v2 c21_i32_644
  let c32_i32_645 : BitVec 32 := 32#32
  let c0_i32_646 : BitVec 32 := 0#32
  let v866 : BitVec 1 := Scalar.cmpi .eq c32_i32_645 c0_i32_646
  let c1_i32_647 : BitVec 32 := 1#32
  let v867 : BitVec 32 := Scalar.select v866 c1_i32_647 c32_i32_645
  let v868 : BitVec 32 := Scalar.remsi v865 v867
  let c0_i32_649 : BitVec 32 := 0#32
  let v870 : BitVec 1 := Scalar.cmpi .slt v868 c0_i32_649
  let c0_i32_650 : BitVec 32 := 0#32
  let v871 : BitVec 1 := Scalar.cmpi .slt v867 c0_i32_650
  let v872 : BitVec 1 := Scalar.xori v870 v871
  let c0_i32_648 : BitVec 32 := 0#32
  let v869 : BitVec 1 := Scalar.cmpi .ne v868 c0_i32_648
  let v873 : BitVec 1 := Scalar.andi v872 v869
  let v874 : BitVec 32 := Scalar.addi v868 v867
  let v875 : BitVec 32 := Scalar.select v873 v874 v868
  let c1_i32_655 : BitVec 32 := 1#32
  let v876 : BitVec 32 := Scalar.muli v875 c1_i32_655
  let v877 : BitVec 32 := Scalar.addi c0_i32_656 v876
  v877.toNat
def k0_dev54 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_661 : BitVec 32 := 12#32
  let v886 : BitVec 32 := Scalar.addi v2 c12_i32_661
  let c32_i32_662 : BitVec 32 := 32#32
  let c0_i32_663 : BitVec 32 := 0#32
  let v887 : BitVec 1 := Scalar.cmpi .eq c32_i32_662 c0_i32_663
  let c1_i32_664 : BitVec 32 := 1#32
  let v888 : BitVec 32 := Scalar.select v887 c1_i32_664 c32_i32_662
  let v889 : BitVec 32 := Scalar.remsi v886 v888
  let c0_i32_666 : BitVec 32 := 0#32
  let v891 : BitVec 1 := Scalar.cmpi .slt v889 c0_i32_666
  let c0_i32_667 : BitVec 32 := 0#32
  let v892 : BitVec 1 := Scalar.cmpi .slt v888 c0_i32_667
  let v893 : BitVec 1 := Scalar.xori v891 v892
  let c0_i32_665 : BitVec 32 := 0#32
  let v890 : BitVec 1 := Scalar.cmpi .ne v889 c0_i32_665
  let v894 : BitVec 1 := Scalar.andi v893 v890
  let v895 : BitVec 32 := Scalar.addi v889 v888
  let v896 : BitVec 32 := Scalar.select v894 v895 v889
  let c1_i32_672 : BitVec 32 := 1#32
  let v897 : BitVec 32 := Scalar.muli v896 c1_i32_672
  let v898 : BitVec 32 := Scalar.addi c0_i32_673 v897
  v898.toNat
def k0_dev55 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_678 : BitVec 32 := 20#32
  let v907 : BitVec 32 := Scalar.addi v2 c20_i32_678
  let c32_i32_679 : BitVec 32 := 32#32
  let c0_i32_680 : BitVec 32 := 0#32
  let v908 : BitVec 1 := Scalar.cmpi .eq c32_i32_679 c0_i32_680
  let c1_i32_681 : BitVec 32 := 1#32
  let v909 : BitVec 32 := Scalar.select v908 c1_i32_681 c32_i32_679
  let v910 : BitVec 32 := Scalar.remsi v907 v909
  let c0_i32_683 : BitVec 32 := 0#32
  let v912 : BitVec 1 := Scalar.cmpi .slt v910 c0_i32_683
  let c0_i32_684 : BitVec 32 := 0#32
  let v913 : BitVec 1 := Scalar.cmpi .slt v909 c0_i32_684
  let v914 : BitVec 1 := Scalar.xori v912 v913
  let c0_i32_682 : BitVec 32 := 0#32
  let v911 : BitVec 1 := Scalar.cmpi .ne v910 c0_i32_682
  let v915 : BitVec 1 := Scalar.andi v914 v911
  let v916 : BitVec 32 := Scalar.addi v910 v909
  let v917 : BitVec 32 := Scalar.select v915 v916 v910
  let c1_i32_689 : BitVec 32 := 1#32
  let v918 : BitVec 32 := Scalar.muli v917 c1_i32_689
  let v919 : BitVec 32 := Scalar.addi c0_i32_690 v918
  v919.toNat
def k0_dev56 (d0 : Dev nD) : Nat :=
  let c0_i32_707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_695 : BitVec 32 := 13#32
  let v928 : BitVec 32 := Scalar.addi v2 c13_i32_695
  let c32_i32_696 : BitVec 32 := 32#32
  let c0_i32_697 : BitVec 32 := 0#32
  let v929 : BitVec 1 := Scalar.cmpi .eq c32_i32_696 c0_i32_697
  let c1_i32_698 : BitVec 32 := 1#32
  let v930 : BitVec 32 := Scalar.select v929 c1_i32_698 c32_i32_696
  let v931 : BitVec 32 := Scalar.remsi v928 v930
  let c0_i32_700 : BitVec 32 := 0#32
  let v933 : BitVec 1 := Scalar.cmpi .slt v931 c0_i32_700
  let c0_i32_701 : BitVec 32 := 0#32
  let v934 : BitVec 1 := Scalar.cmpi .slt v930 c0_i32_701
  let v935 : BitVec 1 := Scalar.xori v933 v934
  let c0_i32_699 : BitVec 32 := 0#32
  let v932 : BitVec 1 := Scalar.cmpi .ne v931 c0_i32_699
  let v936 : BitVec 1 := Scalar.andi v935 v932
  let v937 : BitVec 32 := Scalar.addi v931 v930
  let v938 : BitVec 32 := Scalar.select v936 v937 v931
  let c1_i32_706 : BitVec 32 := 1#32
  let v939 : BitVec 32 := Scalar.muli v938 c1_i32_706
  let v940 : BitVec 32 := Scalar.addi c0_i32_707 v939
  v940.toNat
def k0_dev57 (d0 : Dev nD) : Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_712 : BitVec 32 := 19#32
  let v949 : BitVec 32 := Scalar.addi v2 c19_i32_712
  let c32_i32_713 : BitVec 32 := 32#32
  let c0_i32_714 : BitVec 32 := 0#32
  let v950 : BitVec 1 := Scalar.cmpi .eq c32_i32_713 c0_i32_714
  let c1_i32_715 : BitVec 32 := 1#32
  let v951 : BitVec 32 := Scalar.select v950 c1_i32_715 c32_i32_713
  let v952 : BitVec 32 := Scalar.remsi v949 v951
  let c0_i32_717 : BitVec 32 := 0#32
  let v954 : BitVec 1 := Scalar.cmpi .slt v952 c0_i32_717
  let c0_i32_718 : BitVec 32 := 0#32
  let v955 : BitVec 1 := Scalar.cmpi .slt v951 c0_i32_718
  let v956 : BitVec 1 := Scalar.xori v954 v955
  let c0_i32_716 : BitVec 32 := 0#32
  let v953 : BitVec 1 := Scalar.cmpi .ne v952 c0_i32_716
  let v957 : BitVec 1 := Scalar.andi v956 v953
  let v958 : BitVec 32 := Scalar.addi v952 v951
  let v959 : BitVec 32 := Scalar.select v957 v958 v952
  let c1_i32_723 : BitVec 32 := 1#32
  let v960 : BitVec 32 := Scalar.muli v959 c1_i32_723
  let v961 : BitVec 32 := Scalar.addi c0_i32_724 v960
  v961.toNat
def k0_dev58 (d0 : Dev nD) : Nat :=
  let c0_i32_741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_729 : BitVec 32 := 14#32
  let v970 : BitVec 32 := Scalar.addi v2 c14_i32_729
  let c32_i32_730 : BitVec 32 := 32#32
  let c0_i32_731 : BitVec 32 := 0#32
  let v971 : BitVec 1 := Scalar.cmpi .eq c32_i32_730 c0_i32_731
  let c1_i32_732 : BitVec 32 := 1#32
  let v972 : BitVec 32 := Scalar.select v971 c1_i32_732 c32_i32_730
  let v973 : BitVec 32 := Scalar.remsi v970 v972
  let c0_i32_734 : BitVec 32 := 0#32
  let v975 : BitVec 1 := Scalar.cmpi .slt v973 c0_i32_734
  let c0_i32_735 : BitVec 32 := 0#32
  let v976 : BitVec 1 := Scalar.cmpi .slt v972 c0_i32_735
  let v977 : BitVec 1 := Scalar.xori v975 v976
  let c0_i32_733 : BitVec 32 := 0#32
  let v974 : BitVec 1 := Scalar.cmpi .ne v973 c0_i32_733
  let v978 : BitVec 1 := Scalar.andi v977 v974
  let v979 : BitVec 32 := Scalar.addi v973 v972
  let v980 : BitVec 32 := Scalar.select v978 v979 v973
  let c1_i32_740 : BitVec 32 := 1#32
  let v981 : BitVec 32 := Scalar.muli v980 c1_i32_740
  let v982 : BitVec 32 := Scalar.addi c0_i32_741 v981
  v982.toNat
def k0_dev59 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_746 : BitVec 32 := 18#32
  let v991 : BitVec 32 := Scalar.addi v2 c18_i32_746
  let c32_i32_747 : BitVec 32 := 32#32
  let c0_i32_748 : BitVec 32 := 0#32
  let v992 : BitVec 1 := Scalar.cmpi .eq c32_i32_747 c0_i32_748
  let c1_i32_749 : BitVec 32 := 1#32
  let v993 : BitVec 32 := Scalar.select v992 c1_i32_749 c32_i32_747
  let v994 : BitVec 32 := Scalar.remsi v991 v993
  let c0_i32_751 : BitVec 32 := 0#32
  let v996 : BitVec 1 := Scalar.cmpi .slt v994 c0_i32_751
  let c0_i32_752 : BitVec 32 := 0#32
  let v997 : BitVec 1 := Scalar.cmpi .slt v993 c0_i32_752
  let v998 : BitVec 1 := Scalar.xori v996 v997
  let c0_i32_750 : BitVec 32 := 0#32
  let v995 : BitVec 1 := Scalar.cmpi .ne v994 c0_i32_750
  let v999 : BitVec 1 := Scalar.andi v998 v995
  let v1000 : BitVec 32 := Scalar.addi v994 v993
  let v1001 : BitVec 32 := Scalar.select v999 v1000 v994
  let c1_i32_757 : BitVec 32 := 1#32
  let v1002 : BitVec 32 := Scalar.muli v1001 c1_i32_757
  let v1003 : BitVec 32 := Scalar.addi c0_i32_758 v1002
  v1003.toNat
def k0_dev60 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_763 : BitVec 32 := 15#32
  let v1012 : BitVec 32 := Scalar.addi v2 c15_i32_763
  let c32_i32_764 : BitVec 32 := 32#32
  let c0_i32_765 : BitVec 32 := 0#32
  let v1013 : BitVec 1 := Scalar.cmpi .eq c32_i32_764 c0_i32_765
  let c1_i32_766 : BitVec 32 := 1#32
  let v1014 : BitVec 32 := Scalar.select v1013 c1_i32_766 c32_i32_764
  let v1015 : BitVec 32 := Scalar.remsi v1012 v1014
  let c0_i32_768 : BitVec 32 := 0#32
  let v1017 : BitVec 1 := Scalar.cmpi .slt v1015 c0_i32_768
  let c0_i32_769 : BitVec 32 := 0#32
  let v1018 : BitVec 1 := Scalar.cmpi .slt v1014 c0_i32_769
  let v1019 : BitVec 1 := Scalar.xori v1017 v1018
  let c0_i32_767 : BitVec 32 := 0#32
  let v1016 : BitVec 1 := Scalar.cmpi .ne v1015 c0_i32_767
  let v1020 : BitVec 1 := Scalar.andi v1019 v1016
  let v1021 : BitVec 32 := Scalar.addi v1015 v1014
  let v1022 : BitVec 32 := Scalar.select v1020 v1021 v1015
  let c1_i32_774 : BitVec 32 := 1#32
  let v1023 : BitVec 32 := Scalar.muli v1022 c1_i32_774
  let v1024 : BitVec 32 := Scalar.addi c0_i32_775 v1023
  v1024.toNat
def k0_dev61 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_780 : BitVec 32 := 17#32
  let v1033 : BitVec 32 := Scalar.addi v2 c17_i32_780
  let c32_i32_781 : BitVec 32 := 32#32
  let c0_i32_782 : BitVec 32 := 0#32
  let v1034 : BitVec 1 := Scalar.cmpi .eq c32_i32_781 c0_i32_782
  let c1_i32_783 : BitVec 32 := 1#32
  let v1035 : BitVec 32 := Scalar.select v1034 c1_i32_783 c32_i32_781
  let v1036 : BitVec 32 := Scalar.remsi v1033 v1035
  let c0_i32_785 : BitVec 32 := 0#32
  let v1038 : BitVec 1 := Scalar.cmpi .slt v1036 c0_i32_785
  let c0_i32_786 : BitVec 32 := 0#32
  let v1039 : BitVec 1 := Scalar.cmpi .slt v1035 c0_i32_786
  let v1040 : BitVec 1 := Scalar.xori v1038 v1039
  let c0_i32_784 : BitVec 32 := 0#32
  let v1037 : BitVec 1 := Scalar.cmpi .ne v1036 c0_i32_784
  let v1041 : BitVec 1 := Scalar.andi v1040 v1037
  let v1042 : BitVec 32 := Scalar.addi v1036 v1035
  let v1043 : BitVec 32 := Scalar.select v1041 v1042 v1036
  let c1_i32_791 : BitVec 32 := 1#32
  let v1044 : BitVec 32 := Scalar.muli v1043 c1_i32_791
  let v1045 : BitVec 32 := Scalar.addi c0_i32_792 v1044
  v1045.toNat
def k0_dev62 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_797 : BitVec 32 := 16#32
  let v1054 : BitVec 32 := Scalar.addi v2 c16_i32_797
  let c32_i32_798 : BitVec 32 := 32#32
  let c0_i32_799 : BitVec 32 := 0#32
  let v1055 : BitVec 1 := Scalar.cmpi .eq c32_i32_798 c0_i32_799
  let c1_i32_800 : BitVec 32 := 1#32
  let v1056 : BitVec 32 := Scalar.select v1055 c1_i32_800 c32_i32_798
  let v1057 : BitVec 32 := Scalar.remsi v1054 v1056
  let c0_i32_802 : BitVec 32 := 0#32
  let v1059 : BitVec 1 := Scalar.cmpi .slt v1057 c0_i32_802
  let c0_i32_803 : BitVec 32 := 0#32
  let v1060 : BitVec 1 := Scalar.cmpi .slt v1056 c0_i32_803
  let v1061 : BitVec 1 := Scalar.xori v1059 v1060
  let c0_i32_801 : BitVec 32 := 0#32
  let v1058 : BitVec 1 := Scalar.cmpi .ne v1057 c0_i32_801
  let v1062 : BitVec 1 := Scalar.andi v1061 v1058
  let v1063 : BitVec 32 := Scalar.addi v1057 v1056
  let v1064 : BitVec 32 := Scalar.select v1062 v1063 v1057
  let c1_i32_808 : BitVec 32 := 1#32
  let v1065 : BitVec 32 := Scalar.muli v1064 c1_i32_808
  let v1066 : BitVec 32 := Scalar.addi c0_i32_809 v1065
  v1066.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x32768 : Shape := ⟨2, ![2048, 32768]⟩
abbrev S1x32768 : Shape := ⟨2, ![1, 32768]⟩
abbrev S_ : Shape := ⟨0, ![]⟩
abbrev S2048 : Shape := ⟨1, ![2048]⟩
abbrev S2048x1 : Shape := ⟨2, ![2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048x32768, .bf16⟩
  | .hbm, ⟨1, _⟩ => ⟨S1x32768, .bf16⟩
  | .hbm, ⟨2, _⟩ => ⟨S1x32768, .bf16⟩
  | .hbm, ⟨3, _⟩ => ⟨S2048x32768, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1, .bf16⟩
  | .hbm, ⟨11, _⟩ => ⟨S_, .i32⟩
  | .hbm, ⟨12, _⟩ => ⟨S2048x32768, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x32768, .f32⟩
  | .hbm, ⟨20, _⟩ => ⟨S2048x32768, .f32⟩
  | .hbm, ⟨21, _⟩ => ⟨S2048x32768, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .bf16⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .bf16⟩
  | .hbm, ⟨35, _⟩ => ⟨S2048x1, .bf16⟩
  | .hbm, ⟨36, _⟩ => ⟨S2048x1, .bf16⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x1, .bf16⟩
  | .hbm, ⟨43, _⟩ => ⟨S2048x32768, .bf16⟩
  | .hbm, ⟨44, _⟩ => ⟨S2048x32768, .bf16⟩
  | .hbm, ⟨45, _⟩ => ⟨S2048x32768, .bf16⟩
  | .hbm, ⟨46, _⟩ => ⟨S2048x32768, .bf16⟩
  | .hbm, ⟨47, _⟩ => ⟨S2048x32768, .bf16⟩
  | .hbm, ⟨48, _⟩ => ⟨S2048x32768, .bf16⟩
  | .hbm, ⟨49, _⟩ => ⟨S2048x32768, .bf16⟩
  | .hbm, ⟨50, _⟩ => ⟨S2048x32768, .bf16⟩
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_call0_cst_0 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_cst_1 : Ref sig .tc := ⟨.hbm, 23, rfl⟩
abbrev main_call0_v9 : Ref sig .tc := ⟨.hbm, 24, rfl⟩
abbrev main_call0_cst_2 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst_3 : Ref sig .tc := ⟨.hbm, 31, rfl⟩
abbrev main_call0_v15 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩

abbrev nD : Nat := 1
abbrev τ : Topo := Topo.v7x

variable {F : FTy → Type} [FloatOps F]
-- ==== Proof.ProgKernelIdeal.lean ====
/-
# The kernel's program, folded

The body of the kernel signals 31 barriers, makes 31 transfers and waits 31 times for two semaphores, all unrolled.
Here the same program is written with three recursions over lists (`sigK`, `sendK`, `waitK`), and `body_eq` says the
printed body is that program. The offset at list position `i : Fin 31` is `i + 1` devices round the mesh.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen
open Idealize.ShloMosaic Idealize.ShloMosaic.TcCoe
open Idealize.SL.Sem

variable {F : FTy → Type} [FloatOps F]

/-! ## Devices -/

/-- The device `i + 1` places after `c` on the mesh. -/
def peer (c : Dev nD) (i : Fin 31) : Dev nD := ⟨(c.val + i.val + 1) % 32, Nat.mod_lt _ (by decide)⟩

/-- The device `i + 1` places before `c`: the one whose peer at offset `i` is `c`. -/
def back (c : Dev nD) (i : Fin 31) : Dev nD := peer c i.rev

theorem peer_back (c : Dev nD) (i : Fin 31) : peer (back c i) i = c := by
  have hc := c.isLt; have hi := i.isLt
  refine Fin.ext ?_
  simp only [peer, back, Fin.val_rev]
  simp only [nD] at hc
  omega

theorem back_peer (c : Dev nD) (i : Fin 31) : back (peer c i) i = c := by
  have hc := c.isLt; have hi := i.isLt
  refine Fin.ext ?_
  simp only [peer, back, Fin.val_rev]
  simp only [nD] at hc
  omega

/-- Going `i + 1` places round is a bijection of the devices. -/
def turn (i : Fin 31) : Dev nD ≃ Dev nD := ⟨fun c => peer c i, fun c => back c i, fun c => back_peer c i, fun c => peer_back c i⟩

/-- The offsets in the order in which the kernel takes them: 1, 31, 2, 30, … (less one). -/
def offs : List (Fin 31) := [0, 30, 1, 29, 2, 28, 3, 27, 4, 26, 5, 25, 6, 24, 7, 23, 8, 22, 9, 21, 10, 20, 11, 19, 12, 18, 13, 17, 14, 16, 15]

theorem offs_nodup : offs.Nodup := by decide
theorem offs_mem (i : Fin 31) : i ∈ offs := by revert i; decide

/-- The devices the kernel signals, as it computes them. -/
def sigDevs (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩,
   ⟨k0_dev5 c, k0_dev5_lt c⟩, ⟨k0_dev6 c, k0_dev6_lt c⟩, ⟨k0_dev7 c, k0_dev7_lt c⟩, ⟨k0_dev8 c, k0_dev8_lt c⟩,
   ⟨k0_dev9 c, k0_dev9_lt c⟩, ⟨k0_dev10 c, k0_dev10_lt c⟩, ⟨k0_dev11 c, k0_dev11_lt c⟩, ⟨k0_dev12 c, k0_dev12_lt c⟩,
   ⟨k0_dev13 c, k0_dev13_lt c⟩, ⟨k0_dev14 c, k0_dev14_lt c⟩, ⟨k0_dev15 c, k0_dev15_lt c⟩, ⟨k0_dev16 c, k0_dev16_lt c⟩,
   ⟨k0_dev17 c, k0_dev17_lt c⟩, ⟨k0_dev18 c, k0_dev18_lt c⟩, ⟨k0_dev19 c, k0_dev19_lt c⟩, ⟨k0_dev20 c, k0_dev20_lt c⟩,
   ⟨k0_dev21 c, k0_dev21_lt c⟩, ⟨k0_dev22 c, k0_dev22_lt c⟩, ⟨k0_dev23 c, k0_dev23_lt c⟩, ⟨k0_dev24 c, k0_dev24_lt c⟩,
   ⟨k0_dev25 c, k0_dev25_lt c⟩, ⟨k0_dev26 c, k0_dev26_lt c⟩, ⟨k0_dev27 c, k0_dev27_lt c⟩, ⟨k0_dev28 c, k0_dev28_lt c⟩,
   ⟨k0_dev29 c, k0_dev29_lt c⟩, ⟨k0_dev30 c, k0_dev30_lt c⟩, ⟨k0_dev31 c, k0_dev31_lt c⟩]

/-- The devices the kernel sends to, as it computes them. -/
def sendDevs (c : Dev nD) : List (Dev nD) :=
  [⟨k0_dev32 c, k0_dev32_lt c⟩, ⟨k0_dev33 c, k0_dev33_lt c⟩, ⟨k0_dev34 c, k0_dev34_lt c⟩, ⟨k0_dev35 c, k0_dev35_lt c⟩,
   ⟨k0_dev36 c, k0_dev36_lt c⟩, ⟨k0_dev37 c, k0_dev37_lt c⟩, ⟨k0_dev38 c, k0_dev38_lt c⟩, ⟨k0_dev39 c, k0_dev39_lt c⟩,
   ⟨k0_dev40 c, k0_dev40_lt c⟩, ⟨k0_dev41 c, k0_dev41_lt c⟩, ⟨k0_dev42 c, k0_dev42_lt c⟩, ⟨k0_dev43 c, k0_dev43_lt c⟩,
   ⟨k0_dev44 c, k0_dev44_lt c⟩, ⟨k0_dev45 c, k0_dev45_lt c⟩, ⟨k0_dev46 c, k0_dev46_lt c⟩, ⟨k0_dev47 c, k0_dev47_lt c⟩,
   ⟨k0_dev48 c, k0_dev48_lt c⟩, ⟨k0_dev49 c, k0_dev49_lt c⟩, ⟨k0_dev50 c, k0_dev50_lt c⟩, ⟨k0_dev51 c, k0_dev51_lt c⟩,
   ⟨k0_dev52 c, k0_dev52_lt c⟩, ⟨k0_dev53 c, k0_dev53_lt c⟩, ⟨k0_dev54 c, k0_dev54_lt c⟩, ⟨k0_dev55 c, k0_dev55_lt c⟩,
   ⟨k0_dev56 c, k0_dev56_lt c⟩, ⟨k0_dev57 c, k0_dev57_lt c⟩, ⟨k0_dev58 c, k0_dev58_lt c⟩, ⟨k0_dev59 c, k0_dev59_lt c⟩,
   ⟨k0_dev60 c, k0_dev60_lt c⟩, ⟨k0_dev61 c, k0_dev61_lt c⟩, ⟨k0_dev62 c, k0_dev62_lt c⟩]

theorem sigDevs_eq (c : Dev nD) : sigDevs c = offs.map (peer c) := by revert c; decide +kernel
theorem sendDevs_eq (c : Dev nD) : sendDevs c = offs.map (peer c) := by revert c; decide +kernel

/-! ## Slots and semaphores -/

theorem slot_inb (k : Fin 32) : ∀ a, (![k.val, 0, 0] : Fin 3 → Nat) a + S1x32x128.size a ≤ S32x32x128.size a := by
  revert k; decide
theorem sem_inb (k : Fin 32) : ∀ a, (![k.val] : Fin 1 → Nat) a + S1.size a ≤ S32.size a := by
  revert k; decide

/-- Slot `k` of the exchange buffer. -/
abbrev slotR (k : Fin 32) : Rect S32x32x128 := Rect.unit (s := S32x32x128) ![k.val, 0, 0] S1x32x128.size (slot_inb k)

theorem slot_words (k : Fin 32) : (slotR k).WholeWords (EltTy.packing .bf16) := by
  revert k; decide

/-- Slot `k` of a buffer of 32 slots, as the memref the transfers name. -/
abbrev slotM (M : Memref sig .tc .vmem S32x32x128 .bf16) (k : Fin 32) : Memref sig .tc .vmem S32x128 .bf16 :=
  (M.slice (slotR k) (fun _ => rfl)).squeeze S32x128 squeezes_S1x32x128_S32x128

theorem slot_exact (M : Memref sig .tc .vmem S32x32x128 .bf16) (hM : M.IsWhole) (k : Fin 32) : (slotM M k).view.WordExact :=
  (hM.wordExact_slice rfl _ (slot_words k)).reshape _ _

/-- Semaphore `k` of an array of 32. -/
abbrev semAt (a : DmaSems sig S32) (k : Fin 32) : DmaSem sig :=
  ((a.slice (Rect.unit (s := S32) ![k.val] S1.size (sem_inb k))).squeeze S_ squeezes_S1_S_).sem

/-- The barrier semaphore. -/
abbrev barS : Sem sig := (SemArray.scalar (sig.barrier 0 rfl) : Sems sig S_).sem

/-! ## The three loops -/

abbrev PG (F : FTy → Type) [FloatOps F] : Type 1 := Prog (TpuEff nD τ sig (Elt F) Λ₀ .tc) PUnit

/-- One signal of one unit to the barrier of each device listed, then `k`. -/
def sigK : List (Dev nD) → PG F → PG F
  | [], k => k
  | d :: ds, k => .op (.semSignal (Dev.tc d) barS (1#32).toInt) fun _ => sigK ds k

section Loops
variable (M : Memref sig .tc .vmem S32x32x128 .bf16) (hM : M.IsWhole) (a6 a7 : DmaSems sig S32)

/-- One transfer per device and offset listed — slot 0 into slot `31 - i` of that device —, then `k`. -/
def sendK : List (Dev nD) → List (Fin 31) → PG F → PG F
  | d :: ds, i :: is, k =>
    .op (.enqueueDma (slotM M 0) (.remote (Dev.tc d) (slotM M i.rev.succ) (.dma (semAt a6 i.succ))) (.dma (semAt a7 i.rev.succ))
      (slot_exact M hM 0) (slot_exact M hM i.rev.succ) ⟨⟨rfl, Or.inl rfl⟩, trivial⟩) fun _ => sendK ds is k
  | _, _, k => k

/-- Per offset listed, the wait for the transfer sent and the wait for the one received, then `k`. -/
def waitK : List (Fin 31) → PG F → PG F
  | [], k => k
  | i :: is, k =>
    .op (.waitDma2 (semAt a6 i.succ) (slotM M i.rev.succ) (slotM M 0) (slot_exact M hM i.rev.succ) (slot_exact M hM 0)) fun _ =>
    .op (.waitDma2 (semAt a7 i.rev.succ) (slotM M 0) (slotM M i.rev.succ) (slot_exact M hM 0) (slot_exact M hM i.rev.succ)) fun _ =>
      waitK is k

end Loops

/-! ## What is computed from the exchange buffer -/

/-- The column of means, from the exchange buffer. -/
def meanOf (v : Vec F S32x32x128 .bf16) : FVec F S2048x1 .f32 :=
  k0_pay12 (k0_pay6 v) (iota .tc S2048x16 32 [0] iota_S2048x16_d0_w32) (iota .tc S2048x16 32 [1] iota_S2048x16_d1_w32) k0_pay7 k0_pay8 k0_pay9

/-- The column of sums of squares, from the exchange buffer. -/
def sqOf (v : Vec F S32x32x128 .bf16) : FVec F S2048x1 .f32 :=
  k0_pay13 (k0_pay6 v) (iota .tc S2048x16 32 [0] iota_S2048x16_d0_w32) (iota .tc S2048x16 32 [1] iota_S2048x16_d1_w32) k0_pay7 k0_pay8 k0_pay9

/-- The column of reciprocal standard deviations, from the exchange buffer. -/
def rstdOf (v : Vec F S32x32x128 .bf16) : FVec F S2048x1 .f32 := k0_pay15 (meanOf v) (sqOf v) k0_pay14

/-! ## The body -/

section Body
variable (arg0 : Memref sig .tc .vmem S2048x1024 .bf16) (harg0 : arg0.IsWhole) (arg1 : Memref sig .tc .vmem S1x1024 .bf16) (harg1 : arg1.IsWhole)
  (arg2 : Memref sig .tc .vmem S1x1024 .bf16) (harg2 : arg2.IsWhole) (arg3 : Memref sig .tc .vmem S2048x1024 .bf16) (harg3 : arg3.IsWhole)
  (arg4 : Memref sig .tc .vmem S32x32x128 .bf16) (harg4 : arg4.IsWhole) (arg5 : Memref sig .tc .vmem S2048x1024 .bf16) (harg5 : arg5.IsWhole)
  (arg6 arg7 : DmaSems sig S32)

abbrev rBig : Rect S2048x1024 := Rect.unit (s := S2048x1024) ![0, 0] S2048x1024.size inb_S2048x1024_S2048x1024_0_0
abbrev rRow : Rect S1x1024 := Rect.unit (s := S1x1024) ![0, 0] S1x1024.size inb_S1x1024_S1x1024_0_0
abbrev rLo : Rect S32x32x128 := Rect.unit (s := S32x32x128) ![0, 0, 0] S1x16x128.size inb_S32x32x128_S1x16x128_0_0_0
abbrev rHi : Rect S32x32x128 := Rect.unit (s := S32x32x128) ![0, 16, 0] S1x16x128.size inb_S32x32x128_S1x16x128_0_16_0
abbrev rAll : Rect S32x32x128 := Rect.unit (s := S32x32x128) ![0, 0, 0] S32x32x128.size inb_S32x32x128_S32x32x128_0_0_0

/-- The end of the body: the sums gathered, the result computed and stored. -/
def tailK : PG F :=
  .op (.load arg4 rAll.toLoadRect (View.loadsAt_vmem h_S32x32x128)) fun v =>
  .op (.load arg1 rRow.toLoadRect (View.loadsAt_vmem h_S1x1024)) fun g =>
  .op (.load arg2 rRow.toLoadRect (View.loadsAt_vmem h_S1x1024)) fun b =>
  .op (.load arg5 rBig.toLoadRect (View.loadsAt_vmem h_S2048x1024)) fun gx =>
  .op (.load arg3 rBig.toLoadRect (View.loadsAt_vmem h_S2048x1024)) fun _ =>
  .op (.store arg3 rBig (k0_pay1 (meanOf v) (rstdOf v) g b gx) Finset.univ (View.stores_vmem h_S2048x1024 (harg3.storeExact_slice rfl _ packedbf16_S2048x1024_S2048x1024_0_0) (fun _ => rfl)) (.inl rfl)) fun _ =>
  .ret ⟨⟩

/-- The body with its three loops folded. -/
def bodyK : PG F :=
  .op .deviceId fun c =>
  sigK (sigDevs c) <|
  .op (.load arg0 rBig.toLoadRect (View.loadsAt_vmem h_S2048x1024)) fun x =>
  .op (.load arg4 rLo.toLoadRect (View.loadsAt_vmem h_S1x16x128)) fun _ =>
  .op (.store arg4 rLo (k0_pay3 x) Finset.univ (View.stores_vmem h_S1x16x128 (harg4.storeExact_slice rfl _ packedbf16_S32x32x128_S1x16x128_0_0_0) (fun _ => rfl)) (.inl rfl)) fun _ =>
  .op (.load arg4 rHi.toLoadRect (View.loadsAt_vmem h_S1x16x128)) fun _ =>
  .op (.store arg4 rHi (k0_pay4 x) Finset.univ (View.stores_vmem h_S1x16x128 (harg4.storeExact_slice rfl _ packedbf16_S32x32x128_S1x16x128_0_16_0) (fun _ => rfl)) (.inl rfl)) fun _ =>
  .op (.semWait barS (31#32).toInt) fun _ =>
  sendK arg4 harg4 arg6 arg7 (sendDevs c) offs <|
  .op (.load arg1 rRow.toLoadRect (View.loadsAt_vmem h_S1x1024)) fun g =>
  .op (.load arg5 rBig.toLoadRect (View.loadsAt_vmem h_S2048x1024)) fun _ =>
  .op (.store arg5 rBig (k0_pay5 (k0_pay2 x) g) Finset.univ (View.stores_vmem h_S2048x1024 (harg5.storeExact_slice rfl _ packedbf16_S2048x1024_S2048x1024_0_0) (fun _ => rfl)) (.inl rfl)) fun _ =>
  waitK arg4 harg4 arg6 arg7 offs <|
  tailK arg1 arg2 arg3 harg3 arg4 arg5

/-- The printed body is the folded one. -/
theorem body_eq : cc0_body (F := F) arg0 harg0 arg1 harg1 arg2 harg2 arg3 harg3 arg4 harg4 arg5 harg5 arg6 arg7
    = bodyK arg0 arg1 arg2 arg3 harg3 arg4 harg4 arg5 harg5 arg6 arg7 := by
  chain_rfl

end Body

end Cert.KernelIdeal.Run

end
-- ==== Proof.ProtoKernelIdeal.lean ====
/-
# The protocol of the exchange

Device `c` talks to the device `i + 1` places after it for each offset `i : Fin 31`. Slots and semaphores are numbered
`0 … 31`; offset `i` of a receiving device is slot `i + 1`, filled by the device `i + 1` places after it.

* BARRIER cell of `d`: 31 duties of one unit. Duty `i` is paid by the device `i + 1` places before `d`, and hands `d` that
  device's slot `i + 1` (any contents), which `d` alone is going to fill.
* RECEIVE cell `i + 1` of `d`: one duty of a slot's credit, paid when the copy of the device `i + 1` places after `d` lands; it
  hands `d` its slot `i + 1` holding that device's packed sums.
* SEND cell `i + 1` of `c`: one duty of a slot's credit, paid when `c`'s copy at offset `i` has been read; it hands back the share
  of slot 0 the copy was lent.

A device signals first, then waits for its own barrier, then sends, then waits for its sends and receives; levels: barrier 1,
receive 2, everything else 0.
-/
module

public import proofs.«01_k».proof.Proof.ProgKernelIdeal
public import Idealize.ShloMosaic.Lib.Pipeline.Launch
public import Idealize.ShloMosaic.Lib.Pipeline.Kit
public import Idealize.ShloMosaic.Lib.Pointwise.Index
public import Idealize.ShloMosaic.Lib.Tactic
public import Idealize.ShloMosaic.Lib.Ring
public import Idealize.ShloMosaic.Lib.Transfers

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs and cells -/

abbrev xM : Memref sig .tc .vmem S2048x1024 .bf16 := Memref.whole cc0_stg0_0
abbrev gM : Memref sig .tc .vmem S1x1024 .bf16 := Memref.whole cc0_stg1_0
abbrev bM : Memref sig .tc .vmem S1x1024 .bf16 := Memref.whole cc0_stg2_0
abbrev oM : Memref sig .tc .vmem S2048x1024 .bf16 := Memref.whole cc0_stg3_0
abbrev cM : Memref sig .tc .vmem S32x32x128 .bf16 := Memref.whole cc0_scratch0
abbrev wM : Memref sig .tc .vmem S2048x1024 .bf16 := Memref.whole cc0_scratch1

/-- The exchange's cells on one device: the barrier, the send cells, the receive cells. -/
abbrev CI : Type := Unit ⊕ (Fin 32 ⊕ Fin 32)

/-- The kernel's own (scoped) semaphores: send, receive; -/
abbrev osem : Fin 32 ⊕ Fin 32 → SemLoc sig
  | .inl k => .dma (semAt cc0_scratch2 k)
  | .inr k => .dma (semAt cc0_scratch3 k)

/-- and all of the exchange's. -/
abbrev csem : CI → SemLoc sig
  | .inl _ => .reg barS
  | .inr k => osem k

abbrev kcell (ck : Dev nD × CI) : GSem nD τ sig := ((ck.1 : Thread nD τ), csem ck.2)
abbrev barCell (c : Dev nD) : GSem nD τ sig := ((c : Thread nD τ), .reg barS)
abbrev sendCell (c : Dev nD) (k : Fin 32) : GSem nD τ sig := ((c : Thread nD τ), .dma (semAt cc0_scratch2 k))
abbrev recvCell (c : Dev nD) (k : Fin 32) : GSem nD τ sig := ((c : Thread nD τ), .dma (semAt cc0_scratch3 k))

theorem sendSem_val (k : Fin 32) : (semAt cc0_scratch2 k).val = 4 + k.val := by revert k; decide
theorem recvSem_val (k : Fin 32) : (semAt cc0_scratch3 k).val = 36 + k.val := by revert k; decide

/-- Which of the exchange's cells a semaphore is. -/
def cls : SemLoc sig → Option CI
  | .reg s => if s = barS then some (.inl ()) else none
  | .dma q =>
    if q.val < 4 then none
    else if q.val < 36 then some (.inr (.inl ⟨(q.val - 4) % 32, Nat.mod_lt _ (by decide)⟩))
    else some (.inr (.inr ⟨(q.val - 36) % 32, Nat.mod_lt _ (by decide)⟩))

theorem cls_bar : cls (.reg barS) = some (.inl ()) := by
  dsimp only [cls]; exact if_pos rfl
theorem cls_send (k : Fin 32) : cls (.dma (semAt cc0_scratch2 k)) = some (.inr (.inl k)) := by
  have hk := k.isLt
  dsimp only [cls]
  have hv := sendSem_val k
  rw [if_neg (by omega), if_pos (by omega)]
  refine congrArg (fun x => some (Sum.inr (Sum.inl x))) (Fin.ext ?_)
  show ((semAt cc0_scratch2 k).val - 4) % 32 = k.val
  omega
theorem cls_recv (k : Fin 32) : cls (.dma (semAt cc0_scratch3 k)) = some (.inr (.inr k)) := by
  have hk := k.isLt
  dsimp only [cls]
  have hv := recvSem_val k
  rw [if_neg (by omega), if_neg (by omega)]
  refine congrArg (fun x => some (Sum.inr (Sum.inr x))) (Fin.ext ?_)
  show ((semAt cc0_scratch3 k).val - 36) % 32 = k.val
  omega
theorem cls_csem (x : CI) : cls (csem x) = some x := by
  rcases x with ⟨⟩ | k | k
  · exact cls_bar
  · exact cls_send k
  · exact cls_recv k

theorem csem_injective : Function.Injective csem := fun a b h => by
  have := congrArg cls h
  rw [cls_csem, cls_csem] at this
  exact Option.some.inj this

theorem kcell_injective : Function.Injective kcell := by
  rintro ⟨c, k⟩ ⟨c', k'⟩ h
  have h1 : c = c' := congrArg (fun g : GSem nD τ sig => g.1.1) h
  subst h1
  have h2 : k = k' := csem_injective (congrArg Prod.snd h)
  subst h2; rfl

theorem bar_eq_iff {a b : Dev nD} : barCell a = barCell b ↔ a = b :=
  ⟨fun h => congrArg (fun g : GSem nD τ sig => g.1.1) h, fun h => h ▸ rfl⟩
theorem recv_eq_iff {a b : Dev nD} {k k' : Fin 32} : recvCell a k = recvCell b k' ↔ a = b ∧ k = k' :=
  ⟨fun h => by
    have := kcell_injective (a₁ := (a, .inr (.inr k))) (a₂ := (b, .inr (.inr k'))) h
    exact ⟨congrArg Prod.fst this, Sum.inr.inj (Sum.inr.inj (congrArg Prod.snd this))⟩, fun h => by rw [h.1, h.2]⟩
theorem recv_ne_bar {a b : Dev nD} {k : Fin 32} : recvCell a k ≠ barCell b := fun h => by
  have := congrArg Prod.snd h; cases this

/-- The credit of one slot. -/
abbrev N : ℕ := (slotM cM 0).view.dmaCredit
theorem N_pos : 0 < N := View.dmaCredit_pos _ (by decide)

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s block of `gamma`, as staged. -/
def gstg (c : Dev nD) : (cc0_stg1_0 : Ref sig .tc).ty.Contents (Elt F) :=
  (win0_1.blk (0 : Fin 1)).view.read (Elt F) ((s₀ m ρ).mem ((c : Thread nD τ).loc main_arg1))
/-- Device `c`'s block of `beta`, as staged. -/
def bstg (c : Dev nD) : (cc0_stg2_0 : Ref sig .tc).ty.Contents (Elt F) :=
  (win0_2.blk (0 : Fin 1)).view.read (Elt F) ((s₀ m ρ).mem ((c : Thread nD τ).loc main_arg2))

/-- Row `r`, lane `l` of what a device holding the block `x` packs: the row sums above, the row sums of squares below. -/
def packed (x : Vec F S2048x1024 .bf16) (r : Fin 32) (l : Fin 128) : F .bf16 :=
  if h : r.val < 16 then k0_pay3 x (ix3 (0 : Fin 1) ⟨r.val, h⟩ l) else k0_pay4 x (ix3 (0 : Fin 1) ⟨r.val - 16, by omega⟩ l)

/-- The device whose sums slot `s` of device `c` holds at the end. -/
def owner (c : Dev nD) (s : Fin 32) : Dev nD := ⟨(c.val + s.val) % 32, Nat.mod_lt _ (by decide)⟩

theorem owner_peer (c : Dev nD) (i : Fin 31) : owner (peer c i) i.rev.succ = c := by
  have hc := c.isLt; have hi := i.isLt
  refine Fin.ext ?_
  simp only [owner, peer, Fin.val_succ, Fin.val_rev]
  simp only [nD] at hc
  omega
theorem owner_zero (c : Dev nD) : owner c 0 = c := by
  have hc := c.isLt
  refine Fin.ext ?_
  simp only [owner, Fin.val_zero]
  simp only [nD] at hc
  omega

/-- What the exchange buffer of device `c` holds at the end. -/
def commV (c : Dev nD) : (cc0_scratch0 : Ref sig .tc).ty.Contents (Elt F) :=
  fun i : S32x32x128.Idx => packed (xstg m ρ (owner c (i 0))) (i 1) (i 2)

/-- Slot `k` of device `c` held at share `q` with contents `f`. -/
def slotPts (c : Dev nD) (k : Fin 32) (q : PosShare TreeShare) (f : Buf (Elt F) ((slotM cM k).view.loc (c : Thread nD τ))) : sProp 𝕄 :=
  (slotM cM k).view.loc (c : Thread nD τ) ↦[(slotM cM k).view.set]{q} f

omit [FloatOps F] in
instance slotPts_storable (c : Dev nD) (k : Fin 32) (q : PosShare TreeShare) (f) : BI.Storable (upEmb : UEmb _ 𝕄) (slotPts (F := F) c k q f) := by
  unfold slotPts; infer_instance

/-- The share of slot 0 lent to the copy at offset `i`. -/
abbrev tok (i : Fin 31) : PosShare TreeShare := Transfers.shareTok fullShare 31 i

/-! ### Slots are disjoint and cover the buffer -/

theorem slot_set (k : Fin 32) : (slotM cM k).view.set = (slotR k).set := by
  show ((cM.slice (slotR k) (fun _ => rfl)).view.reshape S32x128 _).set = _
  rw [View.set_reshape]
  exact View.set_slice_whole cc0_scratch0 (slotR k)

theorem mem_slot {k : Fin 32} {i : S32x32x128.Idx} : i ∈ (slotR k).set ↔ i 0 = k := by
  rw [Rect.mem_set_unit]
  have h1 : (i 1).val < 32 := (i 1).isLt
  have h2 : (i 2).val < 128 := (i 2).isLt
  constructor
  · intro h
    have h0 : k.val ≤ (i 0).val ∧ (i 0).val < k.val + 1 := h 0
    exact Fin.ext (by omega)
  · intro h a
    fin_cases a
    · show k.val ≤ (i 0).val ∧ (i 0).val < k.val + 1
      rw [h]; omega
    · show 0 ≤ (i 1).val ∧ (i 1).val < 0 + 32
      omega
    · show 0 ≤ (i 2).val ∧ (i 2).val < 0 + 128
      omega

/-- The elements of slot `k`. -/
abbrev slotS (k : Fin 32) : Finset S32x32x128.Idx := (slotM cM k).view.set

theorem mem_slotS {k : Fin 32} {i : S32x32x128.Idx} : i ∈ slotS k ↔ i 0 = k := by
  unfold slotS; rw [slot_set]; exact mem_slot

theorem slots_disjoint (k k' : Fin 32) (h : k ≠ k') : Disjoint (slotS k) (slotS k') := by
  rw [Finset.disjoint_left]
  intro i hi hi'
  exact h ((mem_slotS.mp hi).symm.trans (mem_slotS.mp hi'))

theorem slots_cover : Finset.univ.biUnion slotS = Finset.univ :=
  Finset.eq_univ_iff_forall.mpr fun i => Finset.mem_biUnion.mpr ⟨i 0, Finset.mem_univ _, mem_slotS.mpr rfl⟩

omit [FloatOps F] in
/-- The exchange buffer held whole is held slot by slot. -/
theorem comm_slots (c : Dev nD) (f : Buf (Elt F) ((c : Thread nD τ).loc cc0_scratch0)) :
    ((((c : Thread nD τ).loc cc0_scratch0) ↦{fullShare} f) : sProp 𝕄) = bigSep Finset.univ fun k : Fin 32 => slotPts c k fullShare f :=
  Ring.pointsTo_blocks (ℓ := (c : Thread nD τ).loc cc0_scratch0) slotS slots_disjoint slots_cover f

omit [FloatOps F] in
theorem bigSep_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp), bigSep_map]; rfl

/-! ### What is stored and what lands -/

theorem slot_emb (k : Fin 32) (y : S32x128.Idx) :
    ((slotM cM k).view.emb y : S32x32x128.Idx) 0 = k
      ∧ ((slotM cM k).view.emb y : S32x32x128.Idx) 1 = ((slotM cM 0).view.emb y : S32x32x128.Idx) 1
      ∧ ((slotM cM k).view.emb y : S32x32x128.Idx) 2 = ((slotM cM 0).view.emb y : S32x32x128.Idx) 2 := by
  refine ⟨?_, ?_, ?_⟩
  · have h : (slotM cM k).view.emb y ∈ (slotM cM k).view.set := View.emb_mem_set _ y
    rw [slot_set] at h
    exact mem_slot.mp h
  · exact Fin.ext rfl
  · exact Fin.ext rfl

/-- The copy at offset `i` leaves the receiver's slot as its final contents say. -/
theorem landed (c : Dev nD) (i : Fin 31) (fd : Buf (Elt F) ((slotM cM i.rev.succ).view.loc (peer c i : Thread nD τ))) :
    ∀ j ∈ (slotM cM i.rev.succ).view.set,
      (slotM cM i.rev.succ).view.write (Elt F) fd ((slotM cM 0).view.read (Elt F) (commV m ρ c)) Finset.univ j = commV m ρ (peer c i) j := by
  intro j hj
  obtain ⟨y, -, rfl⟩ := Finset.mem_map.mp hj
  rw [View.write_emb_of_mem _ _ (Finset.mem_univ y)]
  obtain ⟨h0, h1, h2⟩ := slot_emb i.rev.succ y
  obtain ⟨z0, -, -⟩ := slot_emb 0 y
  show commV m ρ c ((slotM cM 0).view.emb y) = commV m ρ (peer c i) ((slotM cM i.rev.succ).view.emb y)
  unfold commV
  dsimp only
  rw [h0, h1, h2, z0, owner_peer, owner_zero]

theorem lo_sub : (cM.access rLo).setOn Finset.univ ⊆ slotS 0 := by
  intro i hi
  have hi' : i ∈ rLo.set := (View.set_slice_whole cc0_scratch0 rLo) ▸ hi
  rw [Rect.mem_set_unit] at hi'
  have h0 : 0 ≤ (i 0).val ∧ (i 0).val < 0 + 1 := hi' 0
  exact mem_slotS.mpr (Fin.ext (by show (i 0).val = 0; omega))

theorem hi_sub : (cM.access rHi).setOn Finset.univ ⊆ slotS 0 := by
  intro i hi
  have hi' : i ∈ rHi.set := (View.set_slice_whole cc0_scratch0 rHi) ▸ hi
  rw [Rect.mem_set_unit] at hi'
  have h0 : 0 ≤ (i 0).val ∧ (i 0).val < 0 + 1 := hi' 0
  exact mem_slotS.mpr (Fin.ext (by show (i 0).val = 0; omega))

theorem lo_load : cM.view.setOn rLo.toLoadRect.set ⊆ slotS 0 :=
  subset_trans (le_of_eq (View.set_slice (v := cM.view) rLo).symm) lo_sub

theorem hi_load : cM.view.setOn rHi.toLoadRect.set ⊆ slotS 0 :=
  subset_trans (le_of_eq (View.set_slice (v := cM.view) rHi).symm) hi_sub

/-- After the two stores slot 0 holds what it is going to hold. -/
theorem stored (c : Dev nD) (f : Buf (Elt F) ((c : Thread nD τ).loc cc0_scratch0)) (j : S32x32x128.Idx) (hj : j ∈ slotS 0) :
      (cM.access rHi : View sig .tc _ _ _).write (Elt F) ((cM.access rLo : View sig .tc _ _ _).write (Elt F) f (k0_pay3 (xstg m ρ c)) Finset.univ)
        (k0_pay4 (xstg m ρ c)) Finset.univ j = commV m ρ c j := by
  have h0 : j 0 = (0 : Fin 32) := mem_slotS.mp hj
  have h1 : (j 1).val < 32 := (j 1).isLt
  have e : commV m ρ c j = packed (xstg m ρ c) (j 1) (j 2) := by
    exact congrArg (fun d => packed (xstg m ρ d) (j 1) (j 2)) ((congrArg (owner c) h0).trans (owner_zero c))
  rw [e]
  by_cases hr : (j 1).val < 16
  · have hn : j ∉ (cM.access rHi).setOn Finset.univ := by
      intro hi
      have hi' : j ∈ rHi.set := (View.set_slice_whole cc0_scratch0 rHi) ▸ hi
      rw [Rect.mem_set_unit] at hi'
      have : 16 ≤ (j 1).val ∧ (j 1).val < 16 + 16 := hi' 1
      omega
    have hj' : j = (cM.access rLo).emb (ix3 (0 : Fin 1) ⟨(j 1).val, hr⟩ (j 2)) := by
      funext a
      refine Fin.ext ?_
      fin_cases a
      · show (j 0).val = 0 + 1 * 0
        rw [h0]; rfl
      · show (j 1).val = 0 + 1 * (j 1).val
        omega
      · show (j 2).val = 0 + 1 * (j 2).val
        omega
    rw [View.write_of_not_mem _ _ _ hn]
    unfold packed
    rw [dif_pos hr]
    conv_lhs => rw [hj']
    rw [View.write_emb_of_mem _ _ (Finset.mem_univ _)]
    rfl
  · have hj' : j = (cM.access rHi).emb (ix3 (0 : Fin 1) ⟨(j 1).val - 16, by omega⟩ (j 2)) := by
      funext a
      refine Fin.ext ?_
      fin_cases a
      · show (j 0).val = 0 + 1 * 0
        rw [h0]; rfl
      · show (j 1).val = 16 + 1 * ((j 1).val - 16)
        omega
      · show (j 2).val = 0 + 1 * (j 2).val
        omega
    unfold packed
    rw [dif_neg hr]
    conv_lhs => rw [hj']
    rw [View.write_emb_of_mem _ _ (Finset.mem_univ _)]
    rfl

end Cert.KernelIdeal.Run

end
-- ==== Proof.SchedKernelIdeal.lean ====
/-
# The schedule of the exchange, what each device owes, and the levels
-/
module

public import proofs.«01_k».proof.Proof.ProtoKernelIdeal

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- Duty `i` of `d`'s barrier cell hands `d` the slot it will fill on the device `i + 1` places before it. -/
def barPay (d : Dev nD) (i : Fin 31) : sProp 𝕄 :=
  iprop((∃ f, slotPts (back d i) i.succ fullShare f) ∗ reached ER (recvCell (back d i) i.succ) 0)
/-- A landing hands the receiver its slot at its final contents. -/
def recvPay (d : Dev nD) (k : Fin 32) : sProp 𝕄 := slotPts d k fullShare (commV m ρ d)
/-- A copy read hands back the share of slot 0 it was lent. -/
def sendPay (c : Dev nD) (i : Fin 31) : sProp 𝕄 := slotPts c 0 (tok i) (commV m ρ c)

/-- The duties of a cell of the exchange. -/
def dutiesOf : Option CI → Finset (Fin 31)
  | none => ∅
  | some (.inl _) => Finset.univ
  | some (.inr (.inl k)) => if k = 0 then ∅ else {0}
  | some (.inr (.inr k)) => if k = 0 then ∅ else {0}

/-- The payload of a cell of the exchange. -/
def payOf (c : Dev nD) (d : Fin 31) : Option CI → sProp 𝕄
  | none => iprop(emp)
  | some (.inl _) => barPay c d
  | some (.inr (.inl k)) => if h : k = 0 then iprop(emp) else sendPay m ρ c (k.pred h)
  | some (.inr (.inr k)) => recvPay m ρ c k

omit [FloatOps F] in
instance barPay_storable (c : Dev nD) (i : Fin 31) : BI.Storable (upEmb : UEmb _ 𝕄) (barPay (F := F) c i) := by
  unfold barPay; infer_instance

instance payOf_storable (c : Dev nD) (d : Fin 31) (x : Option CI) : BI.Storable (upEmb : UEmb _ 𝕄) (payOf m ρ c d x) := by
  rcases x with _ | ⟨⟩ | k | k <;> dsimp only [payOf]
  · infer_instance
  · infer_instance
  · split
    · infer_instance
    · unfold sendPay; infer_instance
  · unfold recvPay; infer_instance

/-- One round for every cell of the exchange. -/
def Rd : Rounds.Schedule (GSem nD τ sig) (Fin 31) 𝕄 where
  duties g r := if r = 0 ∧ g.1.2 = .tc then dutiesOf (cls g.2) else ∅
  unitless _ := False
  amount g _ _ := if g.2 = .reg barS then 1 else N
  payload g _ d := payOf m ρ g.1.1 d (cls g.2)
  amount_pos g _ _ _ := by
    by_cases h : g.2 = .reg barS
    · rw [if_pos h]; exact Nat.one_pos
    · rw [if_neg h]; exact N_pos

instance Rd_payload_storable (g : GSem nD τ sig) (r : ℕ) (d : Fin 31) : BI.Storable (upEmb : UEmb _ 𝕄) ((Rd (F := F) m ρ).payload g r d) := by
  show BI.Storable upEmb (payOf m ρ g.1.1 d (cls g.2))
  infer_instance

section Sched
variable (c : Dev nD) (i : Fin 31)

theorem duties_tc (sm : SemLoc sig) : (Rd (F := F) m ρ).duties ((c : Thread nD τ), sm) 0 = dutiesOf (cls sm) := by
  dsimp only [Rd]; exact if_pos ⟨rfl, rfl⟩
theorem duties_bar : (Rd (F := F) m ρ).duties (barCell c) 0 = Finset.univ := by
  rw [duties_tc, cls_bar]; rfl
theorem duties_send : (Rd (F := F) m ρ).duties (sendCell c i.succ) 0 = {0} := by
  rw [duties_tc, cls_send]; dsimp only [dutiesOf]; exact if_neg (Fin.succ_ne_zero i)
theorem duties_recv : (Rd (F := F) m ρ).duties (recvCell c i.succ) 0 = {0} := by
  rw [duties_tc, cls_recv]; dsimp only [dutiesOf]; exact if_neg (Fin.succ_ne_zero i)
theorem duties_send0 : (Rd (F := F) m ρ).duties (sendCell c 0) 0 = ∅ := by
  rw [duties_tc, cls_send]; dsimp only [dutiesOf]; exact if_pos rfl
theorem duties_recv0 : (Rd (F := F) m ρ).duties (recvCell c 0) 0 = ∅ := by
  rw [duties_tc, cls_recv]; dsimp only [dutiesOf]; exact if_pos rfl
theorem duties_later (g : GSem nD τ sig) : ∀ r, 1 ≤ r → (Rd (F := F) m ρ).duties g r = ∅ :=
  fun r hr => if_neg fun h => by omega
/-- The cells numbered 0 have no duty at all. -/
theorem duties_none (g : GSem nD τ sig) (h : (Rd (F := F) m ρ).duties g 0 = ∅) : ∀ r, 0 ≤ r → (Rd (F := F) m ρ).duties g r = ∅ :=
  fun r _ => by rcases Nat.eq_zero_or_pos r with rfl | hr
                · exact h
                · exact duties_later m ρ g r hr

theorem amount_bar (d : Fin 31) : (Rd (F := F) m ρ).amount (barCell c) 0 d = 1 := by dsimp only [Rd]; exact if_pos rfl
theorem amount_send (k : Fin 32) (d : Fin 31) : (Rd (F := F) m ρ).amount (sendCell c k) 0 d = N := by
  dsimp only [Rd]; exact if_neg (fun h => by cases h)
theorem amount_recv (k : Fin 32) (d : Fin 31) : (Rd (F := F) m ρ).amount (recvCell c k) 0 d = N := by
  dsimp only [Rd]; exact if_neg (fun h => by cases h)

theorem expect_bar : (Rd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
/-- A cell with one duty expects that duty's amount. -/
theorem expect_lone {g : GSem nD τ sig} (h : (Rd (F := F) m ρ).duties g 0 = {0}) : (Rd (F := F) m ρ).expect g 0 = (Rd (F := F) m ρ).amount g 0 0 :=
  (congrArg (fun S => ∑ d ∈ S, (Rd (F := F) m ρ).amount g 0 d) h).trans (Finset.sum_singleton _ _)
theorem expect_send : (Rd (F := F) m ρ).expect (sendCell c i.succ) 0 = N :=
  (expect_lone m ρ (duties_send m ρ c i)).trans (amount_send m ρ c i.succ 0)
theorem expect_recv : (Rd (F := F) m ρ).expect (recvCell c i.succ) 0 = N :=
  (expect_lone m ρ (duties_recv m ρ c i)).trans (amount_recv m ρ c i.succ 0)

theorem payload_bar (d : Fin 31) : (Rd (F := F) m ρ).payload (barCell c) 0 d = barPay c d := by
  show payOf m ρ c d (cls (.reg barS)) = _
  rw [cls_bar]; rfl
theorem payload_send (d : Fin 31) : (Rd (F := F) m ρ).payload (sendCell c i.succ) 0 d = sendPay m ρ c i := by
  show payOf m ρ c d (cls (.dma (semAt cc0_scratch2 i.succ))) = _
  rw [cls_send]
  show (if h : i.succ = 0 then iprop(emp) else sendPay m ρ c (i.succ.pred h)) = _
  rw [dif_neg (Fin.succ_ne_zero i), Fin.pred_succ]
theorem payload_recv (k : Fin 32) (d : Fin 31) : (Rd (F := F) m ρ).payload (recvCell c k) 0 d = recvPay m ρ c k := by
  show payOf m ρ c d (cls (.dma (semAt cc0_scratch3 k))) = _
  rw [cls_recv]; rfl

theorem rest_bar : bigSep ((Rd (F := F) m ρ).duties (barCell c) 0 \ ∅) (fun d => (Rd (F := F) m ρ).payload (barCell c) 0 d)
    = bigSep Finset.univ fun d : Fin 31 => barPay c d := by
  rw [Finset.sdiff_empty, duties_bar]; exact bigSep_congr fun d _ => payload_bar m ρ c d
/-- What a cell with one duty hands over in full is that duty's payload. -/
theorem rest_lone {g : GSem nD τ sig} (h : (Rd (F := F) m ρ).duties g 0 = {0}) :
    bigSep ((Rd (F := F) m ρ).duties g 0 \ ∅) ((Rd (F := F) m ρ).payload g 0) = (Rd (F := F) m ρ).payload g 0 0 :=
  (congrArg (fun S => bigSep S ((Rd (F := F) m ρ).payload g 0)) (Finset.sdiff_empty.trans h)).trans (bigSep_singleton)
theorem rest_send : bigSep ((Rd (F := F) m ρ).duties (sendCell c i.succ) 0 \ ∅) ((Rd (F := F) m ρ).payload (sendCell c i.succ) 0) = sendPay m ρ c i :=
  (rest_lone m ρ (duties_send m ρ c i)).trans (payload_send m ρ c i 0)
theorem rest_recv : bigSep ((Rd (F := F) m ρ).duties (recvCell c i.succ) 0 \ ∅) ((Rd (F := F) m ρ).payload (recvCell c i.succ) 0) = recvPay m ρ c i.succ :=
  (rest_lone m ρ (duties_recv m ρ c i)).trans (payload_recv m ρ c i.succ 0)

end Sched

/-! ## What each device owes -/

/-- What device `c` owes while the sends listed are still to be made: each one's landing. -/
def recvO (c : Dev nD) : List (Fin 31) → CellTallies nD τ sig Unit
  | [] => 0
  | i :: l => recvO c l + tallyAt (recvCell (peer c i) i.rev.succ) () N

/-- What device `c` owes while the signals listed are still to be made: those, and all landings. -/
def barO (c : Dev nD) : List (Fin 31) → CellTallies nD τ sig Unit
  | [] => recvO c offs
  | i :: l => barO c l + tallyAt (barCell (peer c i)) () 1

def O₀ (c : Dev nD) : CellTallies nD τ sig Unit := barO c offs

/-- The cells that have a level: those of the devices' TensorCores. -/
def L (g : GSem nD τ sig) : Finset Unit := Finset.univ.filter fun _ => g.1.2 = .tc

/-- The level of a cell of the exchange. -/
def lvOf : Option CI → ℕ
  | some (.inl _) => 1
  | some (.inr (.inr _)) => 2
  | _ => 0
def lv (g : GSem nD τ sig) (_ : Unit) : ℕ := lvOf (cls g.2)

theorem leveled {g : GSem nD τ sig} (h : g.1.2 = .tc) (u : Unit) : u ∈ L g := Finset.mem_filter.mpr ⟨Finset.mem_univ u, h⟩
theorem unleveled (g : GSem nD τ sig) (h : g.1.2 ≠ .tc) : L g = ∅ := Finset.filter_false_of_mem fun _ _ => h
theorem lv_bar (c : Dev nD) (u : Unit) : lv (barCell c) u = 1 := by unfold lv; rw [cls_bar]; rfl
theorem lv_recv (c : Dev nD) (k : Fin 32) (u : Unit) : lv (recvCell c k) u = 2 := by
  show lvOf (cls (.dma (semAt cc0_scratch3 k))) = 2
  rw [cls_recv]; rfl

theorem tally_add_pos {A B : CellTallies nD τ sig Unit} {g : GSem nD τ sig} {u : Unit} (h : 0 < (A + B) g u) : 0 < A g u ∨ 0 < B g u := by
  rw [Pi.add_apply, Finsupp.add_apply] at h; omega
theorem recvO_pos {c : Dev nD} {l : List (Fin 31)} {g : GSem nD τ sig} {u : Unit} (h : 0 < recvO c l g u) :
    ∃ d k, g = recvCell d k := by
  induction l with
  | nil => exact absurd h (Nat.lt_irrefl 0)
  | cons i l ih =>
    rcases tally_add_pos h with h | h
    · exact ih h
    · exact ⟨_, _, (Pipeline.tallyAt_pos h).1⟩

theorem barO_pos {c : Dev nD} {l : List (Fin 31)} {g : GSem nD τ sig} {u : Unit} (h : 0 < barO c l g u) :
    (∃ d k, g = recvCell d k) ∨ ∃ d, g = barCell d := by
  induction l with
  | nil => exact Or.inl (recvO_pos h)
  | cons i l ih =>
    rcases tally_add_pos h with h | h
    · exact ih h
    · exact Or.inr ⟨_, (Pipeline.tallyAt_pos h).1⟩

omit [FloatOps F] in
/-- A cell of level at most `n` may be waited for below debts of TensorCore cells of a greater level. -/
theorem mayWait_under (c : Dev nD) (sm : SemLoc sig) (n : ℕ) (O : CellTallies nD τ sig Unit) (hsm : lvOf (cls sm) ≤ n)
    (hO : ∀ g u, 0 < O g u → g.1.2 = .tc ∧ n < lv g u) : (levAts L lv : sProp 𝕄) ⊢ MayWait (c : Thread nD τ) sm () O :=
  MayOwe.of_cut n (fun p hp => leveled (by rw [Finset.mem_singleton.mp hp]) _) (fun g u h => leveled (hO g u h).1 u)
    (fun p hp => by rw [Finset.mem_singleton.mp hp]; exact hsm) fun g u h => (hO g u h).2

omit [FloatOps F] in
/-- A staging semaphore may be waited for by a device that owes everything or nothing. -/
theorem mayWait_stage (c : Dev nD) (q : DmaSem sig) (hq : cls (.dma q) = none) (O : CellTallies nD τ sig Unit) (hO : O = O₀ c ∨ O = 0) :
    (levAts L lv : sProp 𝕄) ⊢ MayWait (c : Thread nD τ) (.dma q) () O := by
  refine mayWait_under c _ 0 O (le_of_eq (by rw [hq]; rfl)) fun g u h => ?_
  obtain rfl | rfl := hO
  · obtain ⟨d, k, rfl⟩ | ⟨d, rfl⟩ := barO_pos h
    · exact ⟨rfl, by rw [lv_recv]; decide⟩
    · exact ⟨rfl, by rw [lv_bar]; decide⟩
  · exact absurd h (Nat.lt_irrefl 0)

omit [FloatOps F] in
/-- At its barrier wait a device owes landings only, above its barrier cell. -/
theorem mayWait_bar (c : Dev nD) :
    (levAts L lv : sProp 𝕄) ⊢ MayWait (c : Thread nD τ) (.reg barS) () (recvO c offs) :=
  mayWait_under c _ 1 _ (le_of_eq (lv_bar c ())) fun g u h => by
    obtain ⟨d, k, rfl⟩ := recvO_pos h
    exact ⟨rfl, by rw [lv_recv]; decide⟩

/-! ### What the launch credits each cell with -/

theorem recvO_bar (c d : Dev nD) (l : List (Fin 31)) : recvO c l (barCell d) () = 0 := by
  by_contra h
  obtain ⟨e, k, he⟩ := recvO_pos (Nat.pos_of_ne_zero h)
  exact recv_ne_bar he.symm

theorem barO_bar (c d : Dev nD) (l : List (Fin 31)) : barO c l (barCell d) () = (l.map fun i => if c = back d i then 1 else 0).sum := by
  induction l with
  | nil => exact recvO_bar c d offs
  | cons i l ih =>
    show (barO c l + tallyAt (barCell (peer c i)) () 1 : CellTallies nD τ sig Unit) (barCell d) () = _
    rw [Pi.add_apply, Finsupp.add_apply, ih, List.map_cons, List.sum_cons, Nat.add_comm, tallyAt_apply]
    refine congrArg (· + _) (if_congr ?_ rfl rfl)
    constructor
    · rintro ⟨h, -⟩; rw [bar_eq_iff.mp h, back_peer]
    · rintro rfl; exact ⟨by rw [peer_back], rfl⟩

theorem recvO_recv (c d : Dev nD) (j : Fin 31) (l : List (Fin 31)) (hl : l.Nodup) :
    recvO c l (recvCell d j.succ) () = if j.rev ∈ l ∧ c = peer d j then N else 0 := by
  induction l with
  | nil => rw [if_neg (fun h => List.not_mem_nil h.1)]; rfl
  | cons i l ih =>
    obtain ⟨hi, hl'⟩ := List.nodup_cons.mp hl
    show (recvO c l + tallyAt (recvCell (peer c i) i.rev.succ) () N : CellTallies nD τ sig Unit) (recvCell d j.succ) () = _
    rw [Pi.add_apply, Finsupp.add_apply, ih hl', tallyAt_apply]
    by_cases e : j.rev = i
    · subst e
      rw [if_neg (fun h => hi h.1), Nat.zero_add]
      refine if_congr ?_ rfl rfl
      rw [Fin.rev_rev]
      constructor
      · rintro ⟨h, -⟩
        refine ⟨List.mem_cons_self, ?_⟩
        have := (recv_eq_iff.mp h).1
        rw [this]
        have := back_peer c j.rev
        unfold back at this
        rw [Fin.rev_rev] at this
        exact this.symm
      · rintro ⟨-, rfl⟩
        refine ⟨recv_eq_iff.mpr ⟨(back_peer d j).symm, rfl⟩, rfl⟩
    · rw [if_neg (fun h : recvCell d j.succ = recvCell (peer c i) i.rev.succ ∧ () = () => e (by
          have h2 := Fin.succ_injective _ (recv_eq_iff.mp h.1).2
          rw [h2, Fin.rev_rev])), Nat.add_zero]
      refine if_congr ?_ rfl rfl
      rw [List.mem_cons]
      constructor
      · rintro ⟨h, h'⟩; exact ⟨Or.inr h, h'⟩
      · rintro ⟨h | h, h'⟩
        · exact absurd h e
        · exact ⟨h, h'⟩

theorem barO_recv (c d : Dev nD) (k : Fin 32) (l : List (Fin 31)) : barO c l (recvCell d k) () = recvO c offs (recvCell d k) () := by
  induction l with
  | nil => rfl
  | cons i l ih =>
    show (barO c l + tallyAt (barCell (peer c i)) () 1 : CellTallies nD τ sig Unit) (recvCell d k) () = _
    rw [Pi.add_apply, Finsupp.add_apply, ih, tallyAt_apply, if_neg (fun h => recv_ne_bar h.1), Nat.add_zero]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  refine (Finset.sum_congr rfl fun d _ => barO_bar d c offs).trans ?_
  have h : ∀ l : List (Fin 31), (∑ d : Dev nD, (l.map fun i => if d = back c i then 1 else 0).sum) = l.length := by
    intro l
    induction l with
    | nil => exact Finset.sum_const_zero
    | cons i l ih =>
      simp only [List.map_cons, List.sum_cons, List.length_cons]
      rw [Finset.sum_add_distrib, ih, Finset.sum_ite_eq' Finset.univ (back c i) fun _ => 1, if_pos (Finset.mem_univ _), Nat.add_comm]
  exact h offs

theorem launch_recv (c : Dev nD) (j : Fin 31) :
    tallyOn (recvCell c j.succ) (launchCredit (Pipeline.owing O₀) 0 (recvCell c j.succ)) = (tallyAt (recvCell c j.succ) () N : CellTallies nD τ sig Unit) := by
  unfold tallyAt; refine congrArg _ (Finsupp.ext fun u => ?_); cases u
  rw [Pipeline.launchCredit_owing, Finsupp.single_eq_same]
  refine (Finset.sum_congr rfl fun d _ => (barO_recv d c j.succ offs).trans
    ((recvO_recv d c j offs offs_nodup).trans (if_congr (and_iff_right (offs_mem _)) rfl rfl))).trans ?_
  rw [Finset.sum_ite_eq' Finset.univ (peer c j) fun _ => N, if_pos (Finset.mem_univ _)]

end Cert.KernelIdeal.Run

end
-- ==== Proof.LoopsKernelIdeal.lean ====
/-
# The three loops of the exchange, executed

One rule per loop, by induction on the list of offsets still to be taken.
-/
module

public import proofs.«01_k».proof.Proof.SchedKernelIdeal

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every cell's invariant, and that every cell is at its one round. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)

instance records_persistent (K : Dev nD × CI → ℕ) : BI.Persistent (records m ρ K) := by unfold records; infer_instance

variable (K : Dev nD × CI → ℕ)

theorem inv_at (ck : Dev nD × CI) : records m ρ K ⊢ cellInv ER (Rd m ρ) (K ck) (kcell ck) := by
  unfold records
  iintro ⟨#HI, -⟩
  iapply (show (bigSep Finset.univ fun ck : Dev nD × CI => (cellInv ER (Rd m ρ) (K ck) (kcell ck) : sProp 𝕄)) ⊢ cellInv ER (Rd m ρ) (K ck) (kcell ck) from
    bigSep_elim (Finset.mem_univ ck))
  iexact HI
theorem reached_at (ck : Dev nD × CI) : records m ρ K ⊢ reached ER (kcell ck) 0 := by
  unfold records
  iintro ⟨-, #HR⟩
  iapply (show (bigSep Finset.univ fun ck : Dev nD × CI => (reached ER (kcell ck) 0 : sProp 𝕄)) ⊢ reached ER (kcell ck) 0 from
    bigSep_elim (Finset.mem_univ ck))
  iexact HR

theorem bar_inv (c : Dev nD) : records m ρ K ⊢ cellInv ER (Rd m ρ) (K (c, .inl ())) (barCell c) := inv_at m ρ K (c, .inl ())
theorem send_inv (c : Dev nD) (k : Fin 32) : records m ρ K ⊢ cellInv ER (Rd m ρ) (K (c, .inr (.inl k))) (sendCell c k) := inv_at m ρ K (c, .inr (.inl k))
theorem recv_inv (c : Dev nD) (k : Fin 32) : records m ρ K ⊢ cellInv ER (Rd m ρ) (K (c, .inr (.inr k))) (recvCell c k) := inv_at m ρ K (c, .inr (.inr k))
theorem bar_reached (c : Dev nD) : records m ρ K ⊢ reached ER (barCell c) 0 := reached_at m ρ K (c, .inl ())
theorem send_reached (c : Dev nD) (k : Fin 32) : records m ρ K ⊢ reached ER (sendCell c k) 0 := reached_at m ρ K (c, .inr (.inl k))
theorem recv_reached (c : Dev nD) (k : Fin 32) : records m ρ K ⊢ reached ER (recvCell c k) 0 := reached_at m ρ K (c, .inr (.inr k))

omit [FloatOps F] in
theorem listed_cons (i : Fin 31) (l : List (Fin 31)) (Φ : Fin 31 → sProp 𝕄) : bigSepL (i :: l) Φ = iprop(Φ i ∗ bigSepL l Φ) := bigSepL_cons i l Φ

omit [FloatOps F] in
theorem listed (Φ : Fin 31 → sProp 𝕄) : bigSep Finset.univ Φ = bigSepL offs Φ :=
  bigSep_univ_eq_bigSepL offs (Finset.ext fun i => ⟨fun _ => List.mem_toFinset.mpr (offs_mem i), fun _ => Finset.mem_univ i⟩) offs_nodup Φ

section Loops
variable (c : Dev nD) (k : PG F)

/-! ## The signals -/

/-- What the signal at offset `i` spends: its duty's token and the slot the signalled device is going to fill. -/
def sigRes (i : Fin 31) : sProp 𝕄 := iprop(dutyTok ER (barCell (peer c i)) 0 i ∗ ∃ f, slotPts c i.succ fullShare f)

theorem wp_sigs (Q : PUnit.{1} → sProp 𝕄) (W : Waits sig Unit) (l : List (Fin 31)) :
    iprop(records m ρ K ∗ owes (c : Thread nD τ) (barO c l) W ∗ bigSepL l fun i => sigRes (F := F) c i)
      ⊢ iprop((owes (c : Thread nD τ) (recvO c offs) W -∗ wp frame (wpE (defs₀ (F := F)) 𝒱₀ (c : Thread nD τ) none) Set.univ k Q)
          -∗ wp frame (wpE (defs₀ (F := F)) 𝒱₀ (c : Thread nD τ) none) Set.univ (sigK (l.map (peer c)) k) Q) := by
  induction l with
  | nil =>
    iintro ⟨-, HO, -⟩ Hk
    iapply Hk
    iexact HO
  | cons i l ih =>
    rw [listed_cons, show sigK ((i :: l).map (peer c)) k = .op (.semSignal (Dev.tc (peer c i)) barS ((1 : ℕ) : Int)) fun _ => sigK (l.map (peer c)) k from rfl]
    unfold sigRes
    iintro ⟨#HR, HO, ⟨Htok, Hslot⟩, Hrest⟩ Hk
    iapply (Rounds.wp_signal 𝒱₀ ER (Rd m ρ) (c : Thread nD τ) none (dst := (peer c i : Thread nD τ)) (κ := K (peer c i, .inl ()))
        (d := i) (by rw [duties_bar]; exact Finset.mem_univ _) (amount_bar m ρ (peer c i) i) () (barO c l) rfl)
      $$ [HO Htok Hslot]
    · isplitr; · iapply (bar_inv m ρ K (peer c i)); iexact HR
      isplitl [HO]; · iexact HO
      isplitl [Htok]; · iexact Htok
      isplitl [Hslot]
      · rw [payload_bar]; unfold barPay; rw [back_peer]
        isplitl [Hslot]; · iexact Hslot
        iapply (recv_reached m ρ K c i.succ); iexact HR
      iapply (bar_reached m ρ K (peer c i)); iexact HR
    iintro HO
    iapply ih $$ [HO Hrest]
    · isplitr; · iexact HR
      isplitl [HO]; · iexact HO
      iexact Hrest
    iexact Hk

/-! ## The sends -/

/-- What the send at offset `i` spends: the two duties' tokens, the share of slot 0 it reads, the slot it fills. -/
def sendRes (i : Fin 31) : sProp 𝕄 :=
  iprop(dutyTok ER (sendCell c i.succ) 0 0 ∗ dutyTok ER (recvCell (peer c i) i.rev.succ) 0 0 ∗ slotPts c 0 (tok i) (commV m ρ c)
    ∗ ∃ f, slotPts (peer c i) i.rev.succ fullShare f)

theorem wp_sends (Q : PUnit.{1} → sProp 𝕄) (W : Waits sig Unit) (l : List (Fin 31)) :
    iprop(records m ρ K ∗ owes (c : Thread nD τ) (recvO c l) W ∗ bigSepL l fun i => sendRes m ρ c i)
      ⊢ iprop(((owes (c : Thread nD τ) 0 W ∗ bigSepL l fun i => cred (tallyAt (sendCell c i.succ) () N))
            -∗ wp frame (wpE (defs₀ (F := F)) 𝒱₀ (c : Thread nD τ) none) Set.univ k Q)
          -∗ wp frame (wpE (defs₀ (F := F)) 𝒱₀ (c : Thread nD τ) none) Set.univ
              (sendK cM (Memref.isWhole_whole _) cc0_scratch2 cc0_scratch3 (l.map (peer c)) l k) Q) := by
  induction l generalizing k with
  | nil =>
    rw [bigSepL_nil, bigSepL_nil]
    iintro ⟨-, HO, -⟩ Hk
    iapply Hk
    isplitl [HO]; · iexact HO
    iempintro
  | cons i l ih =>
    rw [listed_cons, listed_cons]
    unfold sendRes
    iintro ⟨#HR, HO, ⟨HtS, HtR, Hsrc, ⟨%fd, Hdst⟩⟩, Hrest⟩ Hk
    unfold slotPts
    iapply (Rounds.wp_send_pointsTo 𝒱₀ ER (Rd m ρ) (c : Thread nD τ) none (κ₁ := K (c, .inr (.inl i.succ))) (κ₂ := K (peer c i, .inr (.inr i.rev.succ)))
        (r₁ := 0) (r₂ := 0) (d₁ := 0) (d₂ := 0) (fd := fd)
        (by rw [duties_send]; exact Finset.mem_singleton_self _) (by rw [duties_recv]; exact Finset.mem_singleton_self _)
        () () N rfl (amount_send m ρ c i.succ 0) (amount_recv m ρ (peer c i) i.rev.succ 0) (recvO c l) rfl (W := W)
        (by rw [payload_send]; exact BI.Entails.refl _)
        (by rw [payload_recv]; unfold recvPay slotPts; exact Entails.of_eq (pointsTo_congr (landed m ρ c i fd)))) $$ [HO HtS HtR Hsrc Hdst]
    · isplitr; · iapply (send_inv m ρ K c i.succ); iexact HR
      isplitr; · iapply (recv_inv m ρ K (peer c i) i.rev.succ); iexact HR
      isplitl [Hsrc]; · iexact Hsrc
      isplitl [Hdst]; · iexact Hdst
      isplitl [HO]; · iexact HO
      isplitl [HtS]; · iexact HtS
      isplitr; · iapply (send_reached m ρ K c i.succ); iexact HR
      isplitl [HtR]; · iexact HtR
      iapply (recv_reached m ρ K (peer c i) i.rev.succ); iexact HR
    iintro ⟨Hc, HO⟩
    iapply ih $$ [HO Hrest]
    · isplitr; · iexact HR
      isplitl [HO]; · iexact HO
      iexact Hrest
    iintro ⟨HO, Hcs⟩
    iapply Hk
    isplitl [HO]; · iexact HO
    isplitl [Hc] <;> iassumption

/-! ## The waits -/

/-- What the two waits at offset `i` spend; -/
def waitRes (i : Fin 31) : sProp 𝕄 :=
  iprop(cred (tallyAt (sendCell c i.succ) () N) ∗ cred (tallyAt (recvCell c i.rev.succ) () N)
    ∗ atPos ER (sendCell c i.succ) 0 ∅ 0 ∗ atPos ER (recvCell c i.rev.succ) 0 ∅ 0)
/-- and what they give: the share of slot 0 back, the slot received, and the two counters at zero. -/
def waitGet (i : Fin 31) : sProp 𝕄 :=
  iprop(slotPts c 0 (tok i) (commV m ρ c) ∗ slotPts c i.rev.succ fullShare (commV m ρ c)
    ∗ semVal (sendCell c i.succ) 0 ∗ semVal (recvCell c i.rev.succ) 0)

theorem wp_waits (Q : PUnit.{1} → sProp 𝕄) (W : Waits sig Unit) (l : List (Fin 31)) :
    iprop(records m ρ K ∗ owes (c : Thread nD τ) 0 W ∗ bigSepL l fun i => waitRes (F := F) c i)
      ⊢ iprop((((∃ W', owes (c : Thread nD τ) 0 W') ∗ bigSepL l fun i => waitGet m ρ c i)
            -∗ wp frame (wpE (defs₀ (F := F)) 𝒱₀ (c : Thread nD τ) none) Set.univ k Q)
          -∗ wp frame (wpE (defs₀ (F := F)) 𝒱₀ (c : Thread nD τ) none) Set.univ
              (waitK cM (Memref.isWhole_whole _) cc0_scratch2 cc0_scratch3 l k) Q) := by
  induction l generalizing W k with
  | nil =>
    rw [bigSepL_nil, bigSepL_nil]
    iintro ⟨-, HO, -⟩ Hk
    iapply Hk
    isplitl [HO]; · iexists W; iexact HO
    iempintro
  | cons i l ih =>
    rw [listed_cons, listed_cons]
    unfold waitRes waitGet
    iintro ⟨#HR, HO, ⟨HcS, HcR, HaS, HaR⟩, Hrest⟩ Hk
    iapply (Rounds.wp_wait_rest_token 𝒱₀ ER (Rd m ρ) (c : Thread nD τ) none (κ := K (c, .inr (.inl i.succ)))
        (wpE_waitDma2_eq 𝒱₀ (c : Thread nD τ) none Set.univ) (Set.mem_univ _) () (O := 0) (W := W) (R := 0) (m := 0) (T := ∅)
        (by rw [Nat.zero_add, expect_send])) $$ [HcS HO HaS]
    · isplitr; · iapply (send_inv m ρ K c i.succ); iexact HR
      isplitl [HcS]; · iexact HcS
      isplitl [HO]; · iexact HO
      isplitr; · rw [MayWait_zero]; iempintro
      iexact HaS
    iintro ⟨HO, HaS, -, Hpay⟩
    ihave HpS := (Entails.of_eq (rest_send m ρ c i)) $$ Hpay
    iapply (Rounds.wp_wait_rest_token 𝒱₀ ER (Rd m ρ) (c : Thread nD τ) none (κ := K (c, .inr (.inr i.rev.succ)))
        (wpE_waitDma2_eq 𝒱₀ (c : Thread nD τ) none Set.univ) (Set.mem_univ _) () (O := 0) (W := insert (SemLoc.dma (semAt cc0_scratch2 i.succ), ()) W)
        (R := 0) (m := 0) (T := ∅) (by rw [Nat.zero_add, expect_recv])) $$ [HcR HO HaR]
    · isplitr; · iapply (recv_inv m ρ K c i.rev.succ); iexact HR
      isplitl [HcR]; · iexact HcR
      isplitl [HO]; · iexact HO
      isplitr; · rw [MayWait_zero]; iempintro
      iexact HaR
    iintro ⟨HO, HaR, -, Hpay⟩
    ihave HpR := (Entails.of_eq (rest_recv m ρ c i.rev)) $$ Hpay
    imod (Rounds.cell_close ER (Rd m ρ) (Set.mem_univ (K (c, .inr (.inl i.succ)))) (fun h => h) (R := 0 + 1) (duties_later m ρ (sendCell c i.succ))) $$ [HaS] with HzS
    · isplitr; · iapply (send_inv m ρ K c i.succ); iexact HR
      iexact HaS
    imod (Rounds.cell_close ER (Rd m ρ) (Set.mem_univ (K (c, .inr (.inr i.rev.succ)))) (fun h => h) (R := 0 + 1) (duties_later m ρ (recvCell c i.rev.succ))) $$ [HaR] with HzR
    · isplitr; · iapply (recv_inv m ρ K c i.rev.succ); iexact HR
      iexact HaR
    unfold sendPay recvPay
    iapply ih $$ [HO Hrest]
    · isplitr; · iexact HR
      isplitl [HO]; · iexact HO
      iexact Hrest
    iintro ⟨HO, Hgs⟩
    iapply Hk
    isplitl [HO]; · iexact HO
    isplitr [Hgs]
    · isplitl [HpS]; · iexact HpS
      isplitl [HpR]; · iexact HpR
      isplitl [HzS] <;> iassumption
    iexact Hgs

end Loops

end Cert.KernelIdeal.Run

end
-- ==== Proof.BodyKernelIdeal.lean ====
/-
# One device's body, executed

From what the launch hands device `c` — the records, its positions and tokens, its credit, its two scratch buffers and its four
staging buffers — through the printed body to what it hands back.
-/
module

public import proofs.«01_k».proof.Proof.LoopsKernelIdeal

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What goes into the loops and what comes out -/

/-- The tokens of the duties device `c` pays: a unit of every other device's barrier, its own sends, its landings. -/
def payToks (c : Dev nD) : sProp 𝕄 :=
  iprop((bigSep Finset.univ fun i : Fin 31 => dutyTok ER (barCell (peer c i)) 0 i)
    ∗ (bigSep Finset.univ fun i : Fin 31 => dutyTok ER (sendCell c i.succ) 0 0)
    ∗ (bigSep Finset.univ fun i : Fin 31 => dutyTok ER (recvCell (peer c i) i.rev.succ) 0 0))

/-- What device `c` alone holds of the exchange: its positions in its cells, and those tokens. -/
def linear (c : Dev nD) : sProp 𝕄 :=
  iprop(atPos ER (barCell c) 0 ∅ 0 ∗ (bigSep Finset.univ fun k : Fin 32 => atPos ER (sendCell c k) 0 ∅ 0)
    ∗ (bigSep Finset.univ fun k : Fin 32 => atPos ER (recvCell c k) 0 ∅ 0) ∗ payToks c)

omit [FloatOps F] in
theorem some_slot (c : Dev nD) (k : Fin 32) (f : Buf (Elt F) ((slotM cM k).view.loc (c : Thread nD τ))) :
    (slotPts c k fullShare f : sProp 𝕄) ⊢ iprop(∃ f, slotPts (F := F) c k fullShare f) := by
  iintro H
  iexists f
  iexact H

omit [FloatOps F] in
theorem sig_intro (c : Dev nD) (f : Buf (Elt F) ((c : Thread nD τ).loc cc0_scratch0)) :
    iprop((bigSep Finset.univ fun i : Fin 31 => dutyTok ER (barCell (peer c i)) 0 i) ∗ (bigSep Finset.univ fun i : Fin 31 => slotPts c i.succ fullShare f))
      ⊢ (bigSepL offs fun i => sigRes (F := F) c i : sProp 𝕄) := by
  rw [← listed]
  unfold sigRes
  rw [bigSep_sep']
  exact sep_mono_right (bigSep_mono fun i _ => some_slot c i.succ f)

omit [FloatOps F] in
/-- The family over the offsets, taken in the opposite order. -/
theorem turned (Φ : Fin 31 → sProp 𝕄) : bigSep Finset.univ Φ = bigSep Finset.univ fun i : Fin 31 => Φ i.rev :=
  bigSep_univ_equiv Fin.revPerm Φ

omit [FloatOps F] in
theorem bar_slot (c : Dev nD) (i : Fin 31) :
    (barPay c i.rev : sProp 𝕄) ⊢ iprop(∃ f, slotPts (F := F) (peer c i) i.rev.succ fullShare f) := by
  unfold barPay
  rw [show back c i.rev = peer c i from by unfold back; rw [Fin.rev_rev]]
  iintro ⟨H, -⟩
  iexact H

omit [FloatOps F] in
/-- What the barrier hands device `c`, sorted by the device each slot lies on. -/
theorem bar_slots (c : Dev nD) : (bigSep Finset.univ fun d : Fin 31 => (barPay c d : sProp 𝕄))
    ⊢ bigSep Finset.univ fun i : Fin 31 => iprop(∃ f, slotPts (peer c i) i.rev.succ fullShare f) := by
  rw [turned]
  exact bigSep_mono fun i _ => bar_slot c i

theorem send_intro (c : Dev nD) :
    iprop((bigSep Finset.univ fun i : Fin 31 => dutyTok ER (sendCell c i.succ) 0 0)
        ∗ (bigSep Finset.univ fun i : Fin 31 => dutyTok ER (recvCell (peer c i) i.rev.succ) 0 0)
        ∗ (bigSep Finset.univ fun i : Fin 31 => slotPts c 0 (tok i) (commV m ρ c))
        ∗ (bigSep Finset.univ fun d : Fin 31 => barPay c d))
      ⊢ (bigSepL offs fun i => sendRes m ρ c i : sProp 𝕄) := by
  rw [← listed]
  unfold sendRes
  rw [bigSep_sep', bigSep_sep', bigSep_sep']
  exact sep_mono_right (sep_mono_right (sep_mono_right (bar_slots c)))

omit [FloatOps F] in
theorem wait_intro (c : Dev nD) :
    iprop((bigSepL offs fun i => cred (tallyAt (sendCell c i.succ) () N))
        ∗ (bigSep Finset.univ fun i : Fin 31 => cred (tallyAt (recvCell c i.succ) () N))
        ∗ (bigSep Finset.univ fun i : Fin 31 => atPos ER (sendCell c i.succ) 0 ∅ 0)
        ∗ (bigSep Finset.univ fun i : Fin 31 => atPos ER (recvCell c i.succ) 0 ∅ 0))
      ⊢ (bigSepL offs fun i => waitRes (F := F) c i : sProp 𝕄) := by
  rw [← listed, ← listed, turned (fun i : Fin 31 => (cred (tallyAt (recvCell c i.succ) () N) : sProp 𝕄)),
    turned (fun i : Fin 31 => (atPos ER (recvCell c i.succ) 0 ∅ 0 : sProp 𝕄))]
  unfold waitRes
  rw [bigSep_sep', bigSep_sep', bigSep_sep']

/-- After the waits the exchange buffer is whole again, at its final contents. -/
theorem wait_elim (c : Dev nD) :
    iprop((bigSepL offs fun i => waitGet m ρ c i) ∗ slotPts c 0 (Transfers.shareDrop fullShare 31) (commV m ρ c))
      ⊢ (iprop((((c : Thread nD τ).loc cc0_scratch0) ↦{fullShare} commV m ρ c)
          ∗ (bigSep Finset.univ fun i : Fin 31 => semVal (sendCell c i.succ) 0) ∗ (bigSep Finset.univ fun i : Fin 31 => semVal (recvCell c i.succ) 0)) : sProp 𝕄) := by
  rw [← listed, turned (fun i : Fin 31 => (semVal (recvCell c i.succ) 0 : sProp 𝕄)), comm_slots, bigSep_succ (fun k : Fin 32 => (slotPts c k fullShare (commV m ρ c) : sProp 𝕄)),
    turned (fun i : Fin 31 => (slotPts c i.succ fullShare (commV m ρ c) : sProp 𝕄))]
  unfold waitGet
  rw [bigSep_sep', bigSep_sep', bigSep_sep']
  iintro ⟨⟨Ht, Hs, HzS, HzR⟩, Hd⟩
  isplitl [Ht Hs Hd]
  · isplitl [Ht Hd]
    · unfold slotPts
      iapply (Transfers.pointsTo_toks_join fullShare 31)
      isplitl [Hd] <;> iassumption
    iexact Hs
  isplitl [HzS] <;> iassumption

/-! ## The region's data -/

/-- What device `c`'s body starts from, the buffers aside. -/
def start (c : Dev nD) : sProp 𝕄 :=
  iprop((∃ K, records m ρ K ∗ linear c) ∗ cred (tallyAt (barCell c) () 31)
    ∗ (bigSep Finset.univ fun i : Fin 31 => cred (tallyAt (recvCell c i.succ) () N)) ∗ levAts L lv)

/-- The two scratch buffers, whatever they hold. -/
def commPts (c : Dev nD) (f : Buf (Elt F) ((c : Thread nD τ).loc cc0_scratch0)) : sProp 𝕄 := ((c : Thread nD τ).loc cc0_scratch0) ↦{fullShare} f
def workPts (c : Dev nD) (f : Buf (Elt F) ((c : Thread nD τ).loc cc0_scratch1)) : sProp 𝕄 := ((c : Thread nD τ).loc cc0_scratch1) ↦{fullShare} f

def Φ₀ (c : Dev nD) : sProp 𝕄 := iprop(start m ρ c ∗ (∃ f, commPts c f) ∗ ∃ f, workPts c f)

/-- After the body: the scratch buffers, and every counter of the exchange at zero. -/
def Φ₁ (c : Dev nD) : sProp 𝕄 :=
  iprop((∃ f, commPts (F := F) c f) ∗ (∃ f, workPts (F := F) c f) ∗ semVal (barCell c) 0
    ∗ (bigSep Finset.univ fun k : Fin 32 => semVal (sendCell c k) 0) ∗ (bigSep Finset.univ fun k : Fin 32 => semVal (recvCell c k) 0))

/-- The result of the kernel on device `c`. -/
def outAt (c : Dev nD) : (cc0_stg3_0 : Ref sig .tc).ty.Contents (Elt F) :=
  k0_pay1 (meanOf (commV m ρ c)) (rstdOf (commV m ρ c)) (gstg m ρ c) (bstg m ρ c) (k0_pay5 (k0_pay2 (xstg m ρ c)) (gstg m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => bstg m ρ c
    | ⟨3, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

def t₀ : Fin cfg0.N := t0_0

/-! ## The accesses that take a whole buffer -/
/-- The origin of a buffer of rank 2, and of rank 3. -/
theorem origin2 : (![0, 0] : Fin 2 → Nat) = fun _ => 0 := by decide
theorem origin3 : (![0, 0, 0] : Fin 3 → Nat) = fun _ => 0 := by decide
omit [FloatOps F] in
theorem read_x (f : (cc0_stg0_0 : Ref sig .tc).ty.Contents (Elt F)) : xM.view.readAt (Elt F) rBig.toLoadRect f = f :=
  Memref.readAt_unit_zero (Elt F) cc0_stg0_0 origin2 _ f
omit [FloatOps F] in
theorem read_g (f : (cc0_stg1_0 : Ref sig .tc).ty.Contents (Elt F)) : gM.view.readAt (Elt F) rRow.toLoadRect f = f :=
  Memref.readAt_unit_zero (Elt F) cc0_stg1_0 origin2 _ f
omit [FloatOps F] in
theorem read_b (f : (cc0_stg2_0 : Ref sig .tc).ty.Contents (Elt F)) : bM.view.readAt (Elt F) rRow.toLoadRect f = f :=
  Memref.readAt_unit_zero (Elt F) cc0_stg2_0 origin2 _ f
omit [FloatOps F] in
theorem read_w (f : (cc0_scratch1 : Ref sig .tc).ty.Contents (Elt F)) : wM.view.readAt (Elt F) rBig.toLoadRect f = f :=
  Memref.readAt_unit_zero (Elt F) cc0_scratch1 origin2 _ f
omit [FloatOps F] in
theorem read_c (f : (cc0_scratch0 : Ref sig .tc).ty.Contents (Elt F)) : cM.view.readAt (Elt F) rAll.toLoadRect f = f :=
  Memref.readAt_unit_zero (Elt F) cc0_scratch0 origin3 _ f
omit [FloatOps F] in
theorem write_o (f w : (cc0_stg3_0 : Ref sig .tc).ty.Contents (Elt F)) :
    (oM.access rBig : View sig .tc _ _ _).write (Elt F) f w Finset.univ = w :=
  Memref.write_access_unit_zero_univ (Elt F) cc0_stg3_0 origin2 _ f w
omit [FloatOps F] in
theorem write_w (f w : (cc0_scratch1 : Ref sig .tc).ty.Contents (Elt F)) :
    (wM.access rBig : View sig .tc _ _ _).write (Elt F) f w Finset.univ = w :=
  Memref.write_access_unit_zero_univ (Elt F) cc0_scratch1 origin2 _ f w

/-! ## The body -/

section Body

variable (K : Dev nD × CI → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The four staging buffers as the body finds them, and what it owes. -/
def stagedPre (c : Dev nD) : sProp 𝕄 :=
  iprop((dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPre (c : Dev nD) : sProp 𝕄 :=
  iprop(((records m ρ K ∗ linear c) ∗ cred (tallyAt (barCell c) () 31)
      ∗ (bigSep Finset.univ fun i : Fin 31 => cred (tallyAt (recvCell c i.succ) () N)) ∗ levAts L lv ∗ (∃ f, commPts c f) ∗ ∃ f, workPts c f)
    ∗ stagedPre m ρ c)

def bodyPost (c : Dev nD) : sProp 𝕄 :=
  iprop(Φ₁ (F := F) c ∗ (dats m ρ 0 c).owesAt () t₀.succ ∗ stg c cc0_stg0_0 (xstg m ρ c) ∗ stg c cc0_stg1_0 (gstg m ρ c)
    ∗ stg c cc0_stg2_0 (bstg m ρ c) ∗ stg c cc0_stg3_0 (outAt m ρ c))

set_option maxHeartbeats 1600000 in
set_option maxRecDepth 16000 in
/-- The body, executed rule by rule in program order. -/
theorem sound_body (c : Dev nD) (Kt : PUnit.{1} → sProp 𝕄) :
    iprop(bodyPre m ρ K c ∗ (bodyPost m ρ c -∗ Kt ⟨⟩))
      ⊢ wp frame (wpE (defs₀ (F := F)) 𝒱₀ (c : Thread nD τ) none) Set.univ
          (cc0_body (F := F) xM (Memref.isWhole_whole _) gM (Memref.isWhole_whole _) bM (Memref.isWhole_whole _) oM (Memref.isWhole_whole _)
            cM (Memref.isWhole_whole _) wM (Memref.isWhole_whole _) cc0_scratch2 cc0_scratch3) Kt := by
  rw [body_eq]; unfold bodyK
  simp only [wp_deviceId]
  show _ ⊢ wp frame (wpE (defs₀ (F := F)) 𝒱₀ (c : Thread nD τ) none) Set.univ (sigK (sigDevs c) _) Kt
  rw [sigDevs_eq, sendDevs_eq]
  unfold bodyPre stagedPre linear payToks commPts workPts
  rw [bigSep_succ (fun k : Fin 32 => (atPos ER (sendCell c k) 0 ∅ 0 : sProp 𝕄)), bigSep_succ (fun k : Fin 32 => (atPos ER (recvCell c k) 0 ∅ 0 : sProp 𝕄))]
  iintro ⟨⟨⟨⟨#HR, HaB, ⟨HaS0, HaS⟩, ⟨HaR0, HaR⟩, HtB, HtS, HtR⟩, HcB, HcR, #Hlev, ⟨%f0, Hcomm⟩, ⟨%w0, Hwork⟩⟩,
    Ho, ⟨%d0, %x0, %hx0, Hx⟩, ⟨%d1, %g0, %hg0, Hg⟩, ⟨%d2, %b0, %hb0, Hb⟩, ⟨%d3, %o0, %ho0, Hout⟩⟩, Hk⟩
  have hx : x0 = xstg m ρ c := by rw [hx0]; unfold Dat.before; rw [if_pos (fetch0_0 t₀)]; rfl
  have hg : g0 = gstg m ρ c := by rw [hg0]; unfold Dat.before; rw [if_pos (fetch0_1 t₀)]; rfl
  have hb : b0 = bstg m ρ c := by rw [hb0]; unfold Dat.before; rw [if_pos (fetch0_2 t₀)]; rfl
  subst hx hg hb
  unfold Dat.owesAt Pipeline.owesWithin
  icases Ho with ⟨%W, %hW, HO⟩
  rw [show (dats m ρ 0 c).owed t₀.castSucc = barO c offs from rfl]
  -- the exchange buffer slot by slot; the signals
  ihave Hcomm := (Entails.of_eq ((comm_slots c f0).trans (bigSep_succ _))) $$ Hcomm
  icases Hcomm with ⟨Hs0, Hslots⟩
  ihave Hsig := (sig_intro c f0) $$ [HtB Hslots]
  · isplitl [HtB] <;> iassumption
  iapply (wp_sigs m ρ K c _ _ W offs) $$ [HO Hsig]
  · isplitr; · iexact HR
    isplitl [HO] <;> iassumption
  iintro HO
  -- the sums into slot 0
  iapply (wp_load 𝒱₀ (c : Thread nD τ) none Set.univ (m := xM) (Finset.subset_univ _)) $$ Hx; iintro Hx
  rw [read_x]
  unfold slotPts
  iapply (wp_load 𝒱₀ (c : Thread nD τ) none Set.univ (m := cM) lo_load) $$ Hs0; iintro Hs0
  iapply (wp_store 𝒱₀ (c : Thread nD τ) none Set.univ (m := cM) (r := rLo) (Mk := Finset.univ) lo_sub) $$ Hs0; iintro Hs0
  iapply (wp_load 𝒱₀ (c : Thread nD τ) none Set.univ (m := cM) hi_load) $$ Hs0; iintro Hs0
  iapply (wp_store 𝒱₀ (c : Thread nD τ) none Set.univ (m := cM) (r := rHi) (Mk := Finset.univ) hi_sub) $$ Hs0; iintro Hs0
  ihave Hs0 := (Entails.of_eq (pointsTo_congr (stored m ρ c f0))) $$ Hs0
  ihave Hs0 := (Transfers.pointsTo_toks_split fullShare 31) $$ Hs0
  icases Hs0 with ⟨Hdrop, Htoks⟩
  -- the barrier
  iapply (Rounds.wp_wait_rest_token 𝒱₀ ER (Rd m ρ) (c : Thread nD τ) none (κ := K (c, .inl ()))
      (wpE_semWait_eq 𝒱₀ (c : Thread nD τ) none Set.univ) (Set.mem_univ _) () (O := recvO c offs) (W := W) (R := 0) (m := 0) (T := ∅)
      (by rw [expect_bar]; decide)) $$ [HcB HO HaB]
  · isplitr; · iapply (bar_inv m ρ K c); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  -- the sends
  ihave Hsend := (send_intro m ρ c) $$ [HtS HtR Htoks Hp]
  · isplitl [HtS]; · iexact HtS
    isplitl [HtR]; · iexact HtR
    isplitl [Htoks]; · unfold slotPts; iexact Htoks
    iexact Hp
  iapply (wp_sends m ρ K c _ _ _ offs) $$ [HO Hsend]
  · isplitr; · iexact HR
    isplitl [HO] <;> iassumption
  iintro ⟨HO, HcS⟩
  -- gamma * x
  iapply (wp_load 𝒱₀ (c : Thread nD τ) none Set.univ (m := gM) (Finset.subset_univ _)) $$ Hg; iintro Hg
  rw [read_g]
  iapply (wp_load 𝒱₀ (c : Thread nD τ) none Set.univ (m := wM) (Finset.subset_univ _)) $$ Hwork; iintro Hwork
  iapply (wp_store 𝒱₀ (c : Thread nD τ) none Set.univ (m := wM) (r := rBig) (Mk := Finset.univ) (Finset.subset_univ _)) $$ Hwork; iintro Hwork
  rw [write_w]
  -- the waits
  ihave Hwait := (wait_intro c) $$ [HcS HcR HaS HaR]
  · isplitl [HcS]; · iexact HcS
    isplitl [HcR]; · iexact HcR
    isplitl [HaS] <;> iassumption
  iapply (wp_waits m ρ K c _ _ _ offs) $$ [HO Hwait]
  · isplitr; · iexact HR
    isplitl [HO] <;> iassumption
  iintro ⟨⟨%W', HO⟩, Hgets⟩
  ihave Hgot := (wait_elim m ρ c) $$ [Hgets Hdrop]
  · isplitl [Hgets]; · iexact Hgets
    unfold slotPts; iexact Hdrop
  icases Hgot with ⟨Hcomm, HzS, HzR⟩
  -- the remaining cells close
  imod (Rounds.cell_close ER (Rd m ρ) (Set.mem_univ (K (c, .inl ()))) (fun h => h) (R := 0 + 1) (duties_later m ρ (barCell c))) $$ [HaB] with HzB
  · isplitr; · iapply (bar_inv m ρ K c); iexact HR
    iexact HaB
  imod (Rounds.cell_close ER (Rd m ρ) (Set.mem_univ (K (c, .inr (.inl 0)))) (fun h => h) (R := 0) (duties_none m ρ _ (duties_send0 m ρ c))) $$ [HaS0] with HzS0
  · isplitr; · iapply (send_inv m ρ K c 0); iexact HR
    iexact HaS0
  imod (Rounds.cell_close ER (Rd m ρ) (Set.mem_univ (K (c, .inr (.inr 0)))) (fun h => h) (R := 0) (duties_none m ρ _ (duties_recv0 m ρ c))) $$ [HaR0] with HzR0
  · isplitr; · iapply (recv_inv m ρ K c 0); iexact HR
    iexact HaR0
  -- the result
  unfold tailK
  iapply (wp_load 𝒱₀ (c : Thread nD τ) none Set.univ (m := cM) (Finset.subset_univ _)) $$ Hcomm; iintro Hcomm
  rw [read_c]
  iapply (wp_load 𝒱₀ (c : Thread nD τ) none Set.univ (m := gM) (Finset.subset_univ _)) $$ Hg; iintro Hg
  rw [read_g]
  iapply (wp_load 𝒱₀ (c : Thread nD τ) none Set.univ (m := bM) (Finset.subset_univ _)) $$ Hb; iintro Hb
  rw [read_b]
  iapply (wp_load 𝒱₀ (c : Thread nD τ) none Set.univ (m := wM) (Finset.subset_univ _)) $$ Hwork; iintro Hwork
  rw [read_w]
  iapply (wp_load 𝒱₀ (c : Thread nD τ) none Set.univ (m := oM) (Finset.subset_univ _)) $$ Hout; iintro Hout
  iapply (wp_store 𝒱₀ (c : Thread nD τ) none Set.univ (m := oM) (r := rBig) (Mk := Finset.univ) (Finset.subset_univ _)) $$ Hout; iintro Hout
  rw [write_o, wp_ret]; imodintro
  iapply Hk
  unfold bodyPost Φ₁ Dat.owesAt Pipeline.owesWithin
  rw [show (dats m ρ 0 c).owed t₀.succ = 0 from rfl, bigSep_succ (fun k : Fin 32 => (semVal (sendCell c k) 0 : sProp 𝕄)),
    bigSep_succ (fun k : Fin 32 => (semVal (recvCell c k) 0 : sProp 𝕄))]
  isplitl [Hcomm Hwork HzB HzS0 HzS HzR0 HzR]
  · isplitl [Hcomm]; · iexists (commV m ρ c); unfold commPts; iexact Hcomm
    isplitl [Hwork]; · iexists _; unfold workPts; iexact Hwork
    isplitl [HzB]; · iexact HzB
    isplitl [HzS0 HzS]
    · isplitl [HzS0] <;> iassumption
    isplitl [HzR0] <;> iassumption
  isplitl [HO]
  · iexists W'
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  isplitl [Hb]
  · iexists _; isplitr; · (ipureintro; rfl)
    iexact Hb
  iexists _; isplitr; · (ipureintro; rfl)
  iexact Hout

set_option maxRecDepth 16000 in
/-- The library's body obligation on core `c`. -/
theorem body_obligation (c : Dev nD) : BodyObligation (dats (F := F) m ρ 0 c) (defs₀ (F := F)) 𝒱₀ () Set.univ := fun t => by
  rw [show t = t₀ from fin_N0 t]
  rw [bigSep_W0, bigSep_W0]
  simp only [owns_whole_eq]
  show iprop(Φ₀ m ρ c ∗ stagedPre m ρ c) ⊢ wp frame (wpE (defs₀ (F := F)) 𝒱₀ (c : Thread nD τ) none) Set.univ
    (cc0_body (F := F) xM (Memref.isWhole_whole _) gM (Memref.isWhole_whole _) bM (Memref.isWhole_whole _) oM (Memref.isWhole_whole _)
            cM (Memref.isWhole_whole _) wM (Memref.isWhole_whole _) cc0_scratch2 cc0_scratch3) (fun _ => bodyPost m ρ c)
  unfold Φ₀ start
  iintro ⟨⟨⟨⟨%K, Hg⟩, H1, H2, H3⟩, H4, H5⟩, Hst⟩
  iapply (sound_body m ρ K c fun _ => bodyPost m ρ c)
  isplitr []
  · unfold bodyPre
    isplitr [Hst]
    · isplitl [Hg]; · iexact Hg
      isplitl [H1]; · iexact H1
      isplitl [H2]; · iexact H2
      isplitl [H3]; · iexact H3
      isplitl [H4] <;> iassumption
    iexact Hst
  · iintro H; iexact H

end Body

end Cert.KernelIdeal.Run

end
-- ==== Proof.LaunchKernelIdeal.lean ====
/-
# The launch

The exchange's ghost state funded at launch, its invariants allocated for all devices at once, every token carried to the
device that pays the duty, and the run of `@main`.
-/
module

public import proofs.«01_k».proof.Proof.BodyKernelIdeal
public import Idealize.ShloMosaic.Lib.Pipeline.CollectiveSegs
public import Idealize.ShloMosaic.Lib.Pipeline.ValueKit

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide +kernel

theorem share_eq (c : Dev nD) (w : Fin cfg0.W) : (dats m ρ 0 c).share w = fullShare := by unfold Dat.share; split <;> rfl

/-- All cells of the exchange. -/
def exCells : Finset (GSem nD τ sig) := Finset.univ.map ⟨kcell, kcell_injective⟩

/-- The duties of one device's cells. -/
abbrev TI : Type := Fin 31 ⊕ (Fin 31 ⊕ Fin 31)

abbrev tokOf : Dev nD × TI → GSem nD τ sig × ℕ × Fin 31
  | (c, .inl i) => (barCell c, 0, i)
  | (c, .inr (.inl i)) => (sendCell c i.succ, 0, 0)
  | (c, .inr (.inr i)) => (recvCell c i.succ, 0, 0)

theorem tokOf_injective : Function.Injective tokOf := by
  have key (c c' : Dev nD) (x y : CI) (h : kcell (c, x) = kcell (c', y)) : c = c' ∧ x = y :=
    ⟨congrArg Prod.fst (kcell_injective h), congrArg Prod.snd (kcell_injective h)⟩
  rintro ⟨c, i | i | i⟩ ⟨c', j | j | j⟩ h
  · obtain ⟨rfl, -⟩ := key c c' (.inl ()) (.inl ()) (congrArg Prod.fst h)
    have hij : i = j := congrArg (fun x : GSem nD τ sig × ℕ × Fin 31 => x.2.2) h
    rw [hij]
  · cases (key c c' (.inl ()) (.inr (.inl j.succ)) (congrArg Prod.fst h)).2
  · cases (key c c' (.inl ()) (.inr (.inr j.succ)) (congrArg Prod.fst h)).2
  · cases (key c c' (.inr (.inl i.succ)) (.inl ()) (congrArg Prod.fst h)).2
  · obtain ⟨rfl, h2⟩ := key c c' (.inr (.inl i.succ)) (.inr (.inl j.succ)) (congrArg Prod.fst h)
    rw [Fin.succ_injective _ (Sum.inl.inj (Sum.inr.inj h2))]
  · cases (key c c' (.inr (.inl i.succ)) (.inr (.inr j.succ)) (congrArg Prod.fst h)).2
  · cases (key c c' (.inr (.inr i.succ)) (.inl ()) (congrArg Prod.fst h)).2
  · cases (key c c' (.inr (.inr i.succ)) (.inr (.inl j.succ)) (congrArg Prod.fst h)).2
  · obtain ⟨rfl, h2⟩ := key c c' (.inr (.inr i.succ)) (.inr (.inr j.succ)) (congrArg Prod.fst h)
    rw [Fin.succ_injective _ (Sum.inr.inj (Sum.inr.inj h2))]

def exToks : Finset (GSem nD τ sig × ℕ × Fin 31) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun i : Fin 31 => dutyTok ER (barCell c) 0 i)
    ∗ (bigSep Finset.univ fun i : Fin 31 => dutyTok ER (sendCell c i.succ) 0 0)
    ∗ (bigSep Finset.univ fun i : Fin 31 => dutyTok ER (recvCell c i.succ) 0 0))

/-- What the launch deals device `c`. -/
def G (c : Dev nD) : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, records m ρ K ∗ linear c)

omit [FloatOps F] in
theorem ci_split (Φ : CI → sProp 𝕄) : bigSep Finset.univ Φ
    = iprop(Φ (.inl ()) ∗ (bigSep Finset.univ fun k : Fin 32 => Φ (.inr (.inl k))) ∗ bigSep Finset.univ fun k : Fin 32 => Φ (.inr (.inr k))) := by
  rw [bigSep_univ_sum, bigSep_univ_sum, show (Finset.univ : Finset Unit) = {()} from rfl, bigSep_singleton]
  rfl

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (Rd m ρ) exCells exToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 32 => semVal (sendCell c k) 0) ∗ bigSep Finset.univ fun k : Fin 32 => semVal (recvCell c k) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, ci_split]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every offset's turn at once, a bijection of (device, offset). -/
def turnAll : Dev nD × Fin 31 ≃ Dev nD × Fin 31 where
  toFun p := (peer p.1 p.2, p.2)
  invFun p := (back p.1 p.2, p.2)
  left_inv p := Prod.ext (back_peer p.1 p.2) rfl
  right_inv p := Prod.ext (peer_back p.1 p.2) rfl

omit [FloatOps F] in
theorem around (Φ : Dev nD → Fin 31 → sProp 𝕄) :
    (bigSep Finset.univ fun c : Dev nD => bigSep Finset.univ fun i : Fin 31 => Φ c i)
      = bigSep Finset.univ fun c : Dev nD => bigSep Finset.univ fun i : Fin 31 => Φ (peer c i) i := by
  rw [← bigSep_univ_prod (fun p : Dev nD × Fin 31 => Φ p.1 p.2), bigSep_univ_equiv turnAll, bigSep_univ_prod]
  rfl

omit [FloatOps F] in
/-- The tokens carried to the devices that pay: device `c` gets, for each offset, the one of the device that many places on. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', around (fun c i => (dutyTok ER (barCell c) 0 i : sProp 𝕄)),
    bigSep_congr (s := Finset.univ) (fun (c : Dev nD) _ => turned (fun i : Fin 31 => (dutyTok ER (recvCell c i.succ) 0 0 : sProp 𝕄))),
    around (fun c i => (dutyTok ER (recvCell c i.rev.succ) 0 0 : sProp 𝕄))]

theorem ghost_intro (K : Dev nD × CI → ℕ) (c : Dev nD) : iprop(records m ρ K ∗ linear c) ⊢ G' m ρ c := by
  unfold G'
  iintro H
  iexists K
  iexact H

omit [FloatOps F] in
theorem linear_intro (c : Dev nD) : iprop((bigSep Finset.univ fun k : CI => (atPos ER (kcell (c, k)) 0 ∅ 0 : sProp 𝕄)) ∗ payToks c) ⊢ linear (F := F) c := by
  unfold linear
  rw [ci_split]
  iintro ⟨⟨H1, H2, H3⟩, H4⟩
  isplitl [H1]; · iexact H1
  isplitl [H2]; · iexact H2
  isplitl [H3] <;> iassumption

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => linear_intro (F := F) c))
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- The receive semaphores of the 31 offsets. -/
abbrev recvSem : Fin 31 ↪ SemLoc sig := ⟨fun i => csem (.inr (.inr i.succ)), fun _ _ h =>
  Fin.succ_injective _ (Sum.inr.inj (Sum.inr.inj (csem_injective h)))⟩

omit [FloatOps F] in
theorem creds (c : Dev nD) :
    (Pipeline.launchCred O₀ c : sProp 𝕄)
      ⊢ iprop(cred (tallyAt (barCell c) () 31) ∗ bigSep Finset.univ fun i : Fin 31 => cred (tallyAt (recvCell c i.succ) () N)) := by
  unfold Pipeline.launchCred
  rw [bigSep_univ_at _ (SemLoc.reg barS), launch_bar]
  have hsub : (Finset.univ.map recvSem : Finset (SemLoc sig)) ⊆ Finset.univ.erase (SemLoc.reg barS) := fun sm hsm => by
    obtain ⟨i, -, hi⟩ := Finset.mem_map.mp hsm
    refine Finset.mem_erase.mpr ⟨fun h => ?_, Finset.mem_univ _⟩
    have h2 : csem (.inr (.inr i.succ)) = csem (.inl ()) := hi.trans h
    cases csem_injective h2
  have he : (bigSep (Finset.univ.map recvSem) fun sm => (cred (tallyOn (c.tc, sm) (launchCredit (Pipeline.owing O₀) 0 (c.tc, sm))) : sProp 𝕄))
      = bigSep Finset.univ fun i : Fin 31 => cred (tallyAt (recvCell c i.succ) () N) := by
    rw [bigSep_map]
    exact bigSep_congr fun i _ => congrArg cred (launch_recv c i)
  exact sep_mono_right ((bigSep_subset hsub).trans (Entails.of_eq he))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ commPts workPts
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ commPts workPts
  iintro ⟨Hc, Hw, HzB, HzS, HzV⟩
  isplitl [HzB]; · iexact HzB
  isplitl [HzS HzV]
  · isplitl [HzS] <;> iassumption
  isplitl [Hc] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16000 in
/-- On the mesh of 32 devices, for any float values, from any memory with all counters at zero: every fair execution ends,
    with each device's arrays at the contents stated and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := unleveled) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array ends as it was. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

/-- The result array ends holding what the body stored. -/
theorem finalA_out (c : Dev nD) : finalA m ρ c (3 : Fin 4) = outAt m ρ c := by
  refine (dats m ρ 0 c).arrAt_eq_of_after_last (3 : Fin 4) t0_0 (by decide +kernel) _ fun j => ?_
  exact congrArg (outAt m ρ c) (funext fun a => rfl)

/-- The staged block of `x` is the device's argument. -/
theorem xstg_eq (c : Dev nD) : xstg m ρ c = m ((c.tc : Thread nD τ).loc main_arg0) :=
  funext fun j => congrArg (m ((c.tc : Thread nD τ).loc main_arg0)) (funext fun a => Fin.ext
    (Pipeline.Window.rect_emb_val_of_index_zero win0_0 (0 : Fin 1) a ((by decide +kernel : ∀ b, win0_0.index (0 : Fin 1) b = 0) a) j))

/-- The staged block of `gamma` is the device's argument. -/
theorem gstg_eq (c : Dev nD) : gstg m ρ c = m ((c.tc : Thread nD τ).loc main_arg1) :=
  funext fun j => congrArg (m ((c.tc : Thread nD τ).loc main_arg1)) (funext fun a => Fin.ext
    (Pipeline.Window.rect_emb_val_of_index_zero win0_1 (0 : Fin 1) a ((by decide +kernel : ∀ b, win0_1.index (0 : Fin 1) b = 0) a) j))

/-- The staged block of `beta` is the device's argument. -/
theorem bstg_eq (c : Dev nD) : bstg m ρ c = m ((c.tc : Thread nD τ).loc main_arg2) :=
  funext fun j => congrArg (m ((c.tc : Thread nD τ).loc main_arg2)) (funext fun a => Fin.ext
    (Pipeline.Window.rect_emb_val_of_index_zero win0_2 (0 : Fin 1) a ((by decide +kernel : ∀ b, win0_2.index (0 : Fin 1) b = 0) a) j))

/-- The run at the arrays' names: the result, the arguments and the counters. -/
theorem run_named : θ_run defs (onTc (τ := τ) (main (F := F))) ⟨m, fun _ => 0, ρ⟩ (fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨(h.1 c 3).trans (finalA_out m ρ c), (h.1 c 0).trans (finalA_in m ρ c 0 rfl),
    (h.1 c 1).trans (finalA_in m ρ c 1 rfl), (h.1 c 2).trans (finalA_in m ρ c 2 rfl)⟩, h.2⟩) (run_main m ρ)

end Cert.KernelIdeal.Run

end
-- ==== Proof.Select.lean ====
/-
# Reading a row's statistic

The kernel packs row `r`'s sum at sublane `r / 128`, lane `r % 128` of a slot. It reads it back with a 0/1 selection matrix on the
left (row `r` picks sublane `r / 128`) and a lane mask (row `r` keeps lane `r % 128`).
-/
module

public import proofs.«01_k».proof.Proof.LaunchKernelIdeal
public import Idealize.ShloMosaic.PureOps.Ideal.Laws
public import Idealize.ShloMosaic.Lib.Pipeline.Value
public import Idealize.ShloMosaic.Lib.Pointwise.Contract

@[expose] public section

noncomputable section

namespace Cert.Value

open Cert.KernelIdeal Cert.KernelIdeal.Gen
open Idealize.ShloMosaic Idealize.ShloMosaic.TcCoe Idealize.SL.Sem

/-! ## The two integer computations, one row at a time -/

/-- The row's sublane as the kernel computes it: a floor division by 128. -/
def sublaneWord (r : BitVec 32) : BitVec 32 :=
  let sg : BitVec 32 := (IntOp.cmpi .sgt r 0#32).setWidth 32 - (IntOp.cmpi .slt r 0#32).setWidth 32
  let s128 : BitVec 32 := Scalar.subi (Scalar.extui (Scalar.cmpi .sgt 128#32 0#32)) (Scalar.extui (Scalar.cmpi .slt 128#32 0#32))
  let q := IntOp.divsi .vector r 128#32
  if IntOp.andi (IntOp.cmpi .ne sg s128) (IntOp.cmpi .ne (IntOp.remsi .vector r 128#32) 0#32) = 1 then q - 1#32 else q

/-- The row's lane as the kernel computes it: a floor remainder by 128. -/
def laneWord (r : BitVec 32) : BitVec 32 :=
  let d : BitVec 32 := Scalar.select (Scalar.cmpi .eq 128#32 0#32) 1#32 128#32
  let q := IntOp.remsi .vector r d
  if IntOp.andi (IntOp.xori (IntOp.cmpi .slt q 0#32) (Scalar.cmpi .slt d 0#32)) (IntOp.cmpi .ne q 0#32) = 1 then q + d else q

/-- The kernel's iota down the rows. -/
abbrev rowsIota : IVec S2048x16 32 := iota .tc S2048x16 32 [0] iota_S2048x16_d0_w32
/-- The kernel's iota along the sublanes. -/
abbrev subsIota : IVec S2048x16 32 := iota .tc S2048x16 32 [1] iota_S2048x16_d1_w32

theorem sublaneWord_eq : ∀ r : Fin 2048, sublaneWord (BitVec.ofNat 32 r.val) = BitVec.ofNat 32 (r.val / 128) := by
  decide +kernel

theorem laneWord_eq : ∀ r : Fin 2048, laneWord (BitVec.ofNat 32 r.val) = BitVec.ofNat 32 (r.val % 128) := by
  decide +kernel

theorem cmpi_eq_ofNat {a b : ℕ} (ha : a < 4096) (hb : b < 4096) :
    IntOp.cmpi .eq (BitVec.ofNat 32 a) (BitVec.ofNat 32 b) = if a = b then 1#1 else 0#1 := by
  unfold IntOp.cmpi
  by_cases h : a = b
  · subst h; simp
  · have hne : ¬ (BitVec.ofNat 32 a = BitVec.ofNat 32 b) := fun e => h (by
      have := congrArg BitVec.toNat e
      rw [BitVec.toNat_ofNat, BitVec.toNat_ofNat, Nat.mod_eq_of_lt (by omega), Nat.mod_eq_of_lt (by omega)] at this
      exact this)
    rw [if_neg h]
    show BitVec.ofBool (_ == _) = _
    rw [beq_eq_false_iff_ne.mpr hne]
    rfl

/-! ## The selection matrix and the mask at an index -/

/-- Row `r` of the selection matrix is one at sublane `r / 128` and zero elsewhere. -/
theorem sel_apply (r : Fin 2048) (k : Fin 16) :
    k0_pay10 (F := Ideal) rowsIota subsIota k0_pay7 k0_pay8 k0_pay9 (ix2 r k) = if k.val = r.val / 128 then (1 : EReal) else 0 := by
  have h : k0_pay10 (F := Ideal) rowsIota subsIota k0_pay7 k0_pay8 k0_pay9 (ix2 r k)
      = (((BitVec.setWidth 32 (IntOp.cmpi .eq (BitVec.ofNat 32 k.val) (sublaneWord (BitVec.ofNat 32 r.val)))).toInt : ℝ) : EReal) := by
    have h0 : rowsIota (ix2 r k) = BitVec.ofNat 32 r.val := iota_single_apply ..
    have h1 : subsIota (ix2 r k) = BitVec.ofNat 32 k.val := iota_single_apply ..
    rw [← h0, ← h1]
    rfl
  rw [h, sublaneWord_eq r, cmpi_eq_ofNat (by omega) (by omega)]
  by_cases hk : k.val = r.val / 128
  · simp [hk]
  · simp [hk]

/-- Row `r` of the mask keeps lane `r % 128` alone. -/
theorem mask_apply (r : Fin 2048) (l : Fin 128) :
    k0_pay11 (ix2 r l) = if l.val = r.val % 128 then 1#1 else 0#1 := by
  have h : k0_pay11 (ix2 r l) = IntOp.cmpi .eq (BitVec.ofNat 32 l.val) (laneWord (BitVec.ofNat 32 r.val)) := by
    have h0 : iota .tc S2048x128 32 [0] iota_S2048x128_d0_w32 (ix2 r l) = BitVec.ofNat 32 r.val := iota_single_apply ..
    have h1 : iota .tc S2048x128 32 [1] iota_S2048x128_d1_w32 (ix2 r l) = BitVec.ofNat 32 l.val := iota_single_apply ..
    rw [← h0, ← h1]
    rfl
  rw [h, laneWord_eq r, cmpi_eq_ofNat (by omega) (by omega)]

/-! ## A statistic read back -/

/-- The product with the selection matrix, at row `r` and lane `l`, is the packed array at sublane `r / 128`. -/
theorem selected_apply (w : FVec Ideal S16x128 .f32) (r : Fin 2048) (l : Fin 128) :
    matmul dot_S2048x16_S16x128_S2048x128_1_0_0_1_n_n none (k0_pay10 (F := Ideal) rowsIota subsIota k0_pay7 k0_pay8 k0_pay9) w
      (constant S2048x128 .f32 0x00000000#32) (ix2 r l) = w (ix2 ⟨r.val / 128, by omega⟩ l) := by
  refine (Ideal.matmul_constant_zero_apply _ _ _ _ _).trans ?_
  rw [DotDims.sum_contr₁ _ (a := 1) rfl (K := 16) rfl]
  have hl : ∀ k : Fin 16, dot_S2048x16_S16x128_S2048x128_1_0_0_1_n_n.lhsIdx (ix2 r l)
      (DotDims.contrIdx₁ dot_S2048x16_S16x128_S2048x128_1_0_0_1_n_n (a := 1) rfl (K := 16) rfl k) = ix2 r k :=
    fun k => Shape.idx_ext₂ rfl rfl
  have hr : ∀ k : Fin 16, dot_S2048x16_S16x128_S2048x128_1_0_0_1_n_n.rhsIdx (ix2 r l)
      (DotDims.contrIdx₁ dot_S2048x16_S16x128_S2048x128_1_0_0_1_n_n (a := 1) rfl (K := 16) rfl k) = ix2 k l :=
    fun k => Shape.idx_ext₂ rfl rfl
  simp only [hl, hr, sel_apply]
  rw [Finset.sum_eq_single (⟨r.val / 128, by omega⟩ : Fin 16)]
  · simp
  · intro k _ hk
    rw [if_neg (fun e => hk (Fin.ext e)), zero_mul]
  · intro h; exact absurd (Finset.mem_univ _) h

/-- The statistic of every row, read back from the packed array: product with the selection matrix, mask, lane sum. -/
def readBack (w : FVec Ideal S16x128 .f32) : FVec Ideal S2048x1 .f32 :=
  shapeCast S2048x1 (multiReduction .add [1] S2048
    (select k0_pay11 (matmul dot_S2048x16_S16x128_S2048x128_1_0_0_1_n_n none (k0_pay10 (F := Ideal) rowsIota subsIota k0_pay7 k0_pay8 k0_pay9) w
      (constant S2048x128 .f32 0x00000000#32)) (broadcast S2048x128 (Scalar.ofBits .f32 0x00000000#32)))
    0x00000000#32 reduces_S2048x128_S2048 (.inl rfl) rfl) shapeCasts_S2048_S2048x1

/-- Row `r` reads the packed array at sublane `r / 128`, lane `r % 128`. -/
theorem readBack_apply (w : FVec Ideal S16x128 .f32) (r : Fin 2048) :
    readBack w (ix2 r 0) = w (ix2 ⟨r.val / 128, by omega⟩ ⟨r.val % 128, by omega⟩) := by
  unfold readBack
  rw [shapeCast_apply _ _ _ (ix1 r) (by rw [Shape.rowMajor_val_one, Shape.rowMajor_val_two]; simp)]
  refine (Ideal.multiReduction_add_single _ _ _ _ _ _).trans ?_
  have hl : ∀ l : Fin 128, reduces_S2048x128_S2048.lift (ix1 r) l = ix2 r l := fun l => Shape.idx_ext₂ rfl rfl
  have ht : ∀ l : Fin 128, select k0_pay11 (matmul dot_S2048x16_S16x128_S2048x128_1_0_0_1_n_n none (k0_pay10 (F := Ideal) rowsIota subsIota k0_pay7 k0_pay8 k0_pay9) w
        (constant S2048x128 .f32 0x00000000#32)) (broadcast S2048x128 (Scalar.ofBits .f32 0x00000000#32)) (reduces_S2048x128_S2048.lift (ix1 r) l)
      = if l.val = r.val % 128 then w (ix2 ⟨r.val / 128, by omega⟩ l) else 0 := fun l => by
    rw [hl l]
    show (if k0_pay11 (ix2 r l) = 1 then _ else Ideal.ofBits .f32 0x00000000#32) = _
    rw [mask_apply, selected_apply, Ideal.ofBits_zero_f32]
    by_cases h : l.val = r.val % 128 <;> simp [h]
  refine (Finset.sum_congr rfl fun l _ => ht l).trans ?_
  refine (Finset.sum_eq_single (⟨r.val % 128, by omega⟩ : Fin 128) ?_ ?_).trans ?_
  · intro l _ hk
    rw [if_neg (fun e => hk (Fin.ext e))]
  · intro h; exact absurd (Finset.mem_univ _) h
  · simp

end Cert.Value

end
-- ==== Proof.KernelRead.lean ====
/-
# The kernel's result at an index

Every device's packed row sums, added over the 32 slots and read back, are the sums over the whole row; the result is the folded
affine form of the normalisation.
-/
module

public import proofs.«01_k».proof.Proof.Select

@[expose] public section

noncomputable section

namespace Cert.Value

open Cert.KernelIdeal Cert.KernelIdeal.Gen Cert.KernelIdeal.Run
open Idealize.ShloMosaic Idealize.ShloMosaic.TcCoe Idealize.SL.Sem

/-! ## The packed row sums -/

theorem pack_apply (v : FVec Ideal S2048x1024 .f32) (k : Fin 16) (l : Fin 128) :
    shapeCast S1x16x128 (shapeCast S16x128 (multiReduction .add [1] S2048 v 0x00000000#32 reduces_S2048x1024_S2048 (.inl rfl) rfl)
      shapeCasts_S2048_S16x128) shapeCasts_S16x128_S1x16x128 (ix3 (0 : Fin 1) k l)
      = ∑ q : Fin 1024, v (ix2 ⟨k.val * 128 + l.val, by omega⟩ q) := by
  rw [shapeCast_apply _ _ _ (ix2 k l) (by rw [Shape.rowMajor_val_two, Shape.rowMajor_val_three]; simp),
    shapeCast_apply _ _ _ (ix1 (⟨k.val * 128 + l.val, by omega⟩ : Fin 2048)) (by rw [Shape.rowMajor_val_one, Shape.rowMajor_val_two]; simp)]
  refine (Ideal.multiReduction_add_single _ _ _ _ _ _).trans ?_
  exact Finset.sum_congr rfl fun q _ => congrArg v (Shape.idx_ext₂ rfl rfl)

theorem pay2_eq (x : Vec Ideal S2048x1024 .bf16) : k0_pay2 x = x := shapeCast_self _ _

theorem pay3_apply (x : Vec Ideal S2048x1024 .bf16) (k : Fin 16) (l : Fin 128) :
    k0_pay3 x (ix3 (0 : Fin 1) k l) = ∑ q : Fin 1024, (x (ix2 ⟨k.val * 128 + l.val, by omega⟩ q) : EReal) := by
  have h : k0_pay3 x (ix3 (0 : Fin 1) k l) = ∑ q : Fin 1024, k0_pay2 x (ix2 ⟨k.val * 128 + l.val, by omega⟩ q) :=
    pack_apply (k0_pay2 x) k l
  rw [h, pay2_eq]

theorem pay4_apply (x : Vec Ideal S2048x1024 .bf16) (k : Fin 16) (l : Fin 128) :
    k0_pay4 x (ix3 (0 : Fin 1) k l)
      = ∑ q : Fin 1024, (x (ix2 ⟨k.val * 128 + l.val, by omega⟩ q) * x (ix2 ⟨k.val * 128 + l.val, by omega⟩ q) : EReal) := by
  have h : k0_pay4 x (ix3 (0 : Fin 1) k l) = ∑ q : Fin 1024, mulf (k0_pay2 x) (k0_pay2 x) (ix2 ⟨k.val * 128 + l.val, by omega⟩ q) :=
    pack_apply (mulf (k0_pay2 x) (k0_pay2 x)) k l
  rw [h, pay2_eq]
  rfl

/-- Sublane `r / 128`, lane `r % 128` of a slot holds row `r`'s sum. -/
theorem packed_sum (x : Vec Ideal S2048x1024 .bf16) (r : Fin 2048) :
    packed x ⟨r.val / 128, by omega⟩ ⟨r.val % 128, by omega⟩ = ∑ q : Fin 1024, (x (ix2 r q) : EReal) := by
  unfold packed
  rw [dif_pos (show r.val / 128 < 16 by omega), pay3_apply]
  have e : (⟨r.val / 128 * 128 + r.val % 128, by omega⟩ : Fin 2048) = r := Fin.ext (Nat.div_add_mod' _ _)
  simp only [e]

/-- Sublane `16 + r / 128`, lane `r % 128` of a slot holds row `r`'s sum of squares. -/
theorem packed_sq (x : Vec Ideal S2048x1024 .bf16) (r : Fin 2048) :
    packed x ⟨16 + r.val / 128, by omega⟩ ⟨r.val % 128, by omega⟩ = ∑ q : Fin 1024, (x (ix2 r q) * x (ix2 r q) : EReal) := by
  unfold packed
  rw [dif_neg (show ¬ 16 + r.val / 128 < 16 by omega), pay4_apply]
  have e : (⟨(16 + r.val / 128 - 16) * 128 + r.val % 128, by omega⟩ : Fin 2048) = r := Fin.ext (by
    show (16 + r.val / 128 - 16) * 128 + r.val % 128 = r.val
    omega)
  simp only [e]

/-- The owners of device `c`'s slots are all the devices, each once. -/
theorem sum_owner (c : Dev nD) (f : Dev nD → EReal) : ∑ s : Fin 32, f (owner c s) = ∑ d : Fin 32, f d :=
  Fintype.sum_equiv (Equiv.addLeft (c : Fin 32)) _ _ fun s => congrArg f (Fin.ext rfl)

/-- The exchange buffer of device `c` at the end, when device `d`'s block of `x` is `xs d`. -/
def slots (xs : Dev nD → Vec Ideal S2048x1024 .bf16) (c : Dev nD) : Vec Ideal S32x32x128 .bf16 :=
  fun i => packed (xs (owner c (i 0))) (i 1) (i 2)

variable (xs : Dev nD → Vec Ideal S2048x1024 .bf16)

/-- The 32 slots added up, at an index: all the devices' packed sums. -/
theorem pay6_apply (c : Dev nD) (k : Fin 32) (l : Fin 128) :
    k0_pay6 (slots xs c) (ix2 k l) = ∑ d : Fin 32, (packed (xs d) k l : EReal) := by
  have h : k0_pay6 (slots xs c) (ix2 k l) = ∑ s : Fin 32, (slots xs c (reduces_S32x32x128_S32x128.lift (ix2 k l) s) : EReal) :=
    Ideal.multiReduction_add_single (extf .f32 (slots xs c) bitsLt_bf16_f32) 0x00000000#32 reduces_S32x32x128_S32x128 (.inl rfl) rfl (ix2 k l)
  rw [h, ← sum_owner c (fun d => packed (xs d) k l)]
  exact Finset.sum_congr rfl fun s _ => rfl

/-- The mean of row `r`: the whole row's sum over its length. -/
theorem meanOf_apply (c : Dev nD) (r : Fin 2048) :
    meanOf (slots xs c) (ix2 r 0)
      = Ideal.div (∑ d : Fin 32, ∑ q : Fin 1024, (xs d (ix2 r q) : EReal)) (Ideal.ofBits .f32 0x47000000#32) := by
  have h : meanOf (slots xs c) (ix2 r 0) = Ideal.div (readBack
      (extractStridedSlice S16x128 ![0, 0] (k0_pay6 (slots xs c)) slices_S32x128_o0_0_S16x128) (ix2 r 0)) (Ideal.ofBits .f32 0x47000000#32) := rfl
  rw [h, readBack_apply, extractStridedSlice_apply _ _ _ _ (ix2 (⟨r.val / 128, by omega⟩ : Fin 32) (⟨r.val % 128, by omega⟩ : Fin 128))
    (fun a => match a with | ⟨0, _⟩ => (Nat.zero_add _).symm | ⟨1, _⟩ => (Nat.zero_add _).symm), pay6_apply]
  simp only [packed_sum]

/-- The whole row's sum of squares. -/
theorem sqOf_apply (c : Dev nD) (r : Fin 2048) :
    sqOf (slots xs c) (ix2 r 0) = ∑ d : Fin 32, ∑ q : Fin 1024, (xs d (ix2 r q) * xs d (ix2 r q) : EReal) := by
  have h : sqOf (slots xs c) (ix2 r 0) = readBack
      (extractStridedSlice S16x128 ![16, 0] (k0_pay6 (slots xs c)) slices_S32x128_o16_0_S16x128) (ix2 r 0) := rfl
  rw [h, readBack_apply, extractStridedSlice_apply _ _ _ _ (ix2 (⟨16 + r.val / 128, by omega⟩ : Fin 32) (⟨r.val % 128, by omega⟩ : Fin 128))
    (fun a => match a with | ⟨0, _⟩ => rfl | ⟨1, _⟩ => (Nat.zero_add _).symm), pay6_apply]
  simp only [packed_sq]

theorem rstdOf_apply (c : Dev nD) (r : Fin 2048) :
    (rstdOf (slots xs c) (ix2 r 0) : EReal)
      = Ideal.rsqrt (Ideal.div (sqOf (slots xs c) (ix2 r 0)) (Ideal.ofBits .f32 0x47000000#32)
          - meanOf (slots xs c) (ix2 r 0) * meanOf (slots xs c) (ix2 r 0) + Ideal.ofBits .f32 0x3727C5AC#32) := rfl

/-! ## The result -/

/-- The result at row `r`, column `q`: `gamma * x * rstd + (beta - gamma * (mean * rstd))`. -/
theorem pay1_apply (mean rstd : FVec Ideal S2048x1 .f32) (g b : Vec Ideal S1x1024 .bf16) (x : Vec Ideal S2048x1024 .bf16)
    (r : Fin 2048) (q : Fin 1024) :
    k0_pay1 mean rstd g b (k0_pay5 (k0_pay2 x) g) (ix2 r q)
      = (g (ix2 0 q) * x (ix2 r q) * rstd (ix2 r 0) + (b (ix2 0 q) - g (ix2 0 q) * (mean (ix2 r 0) * rstd (ix2 r 0))) : EReal) := by
  have hrow : ∀ v : Vec Ideal S1x1024 .bf16, broadcastTo S2048x1024 (shapeCast S1x1024 v shapeCasts_S1x1024_S1x1024)
      broadcasts_S1x1024_S2048x1024 (ix2 r q) = v (ix2 0 q) := fun v => by
    rw [shapeCast_self]
    exact broadcastTo_apply _ _ _ _ (fun a => match a with | ⟨0, _⟩ => rfl | ⟨1, _⟩ => rfl)
  have hcol : ∀ v : FVec Ideal S2048x1 .bf16, broadcastTo S2048x1024 v broadcasts_S2048x1_S2048x1024 (ix2 r q) = v (ix2 r 0) := fun v =>
    broadcastTo_apply _ _ _ _ (fun a => match a with | ⟨0, _⟩ => rfl | ⟨1, _⟩ => rfl)
  have hgx : k0_pay5 (k0_pay2 x) g (ix2 r q) = (g (ix2 0 q) * x (ix2 r q) : EReal) := by
    rw [pay2_eq]
    unfold k0_pay5
    rw [shapeCast_self (mulf _ _)]
    exact congrArg (fun y : EReal => y * x (ix2 r q)) (hrow g)
  have h : k0_pay1 mean rstd g b (k0_pay5 (k0_pay2 x) g) (ix2 r q)
      = (k0_pay5 (k0_pay2 x) g (ix2 r q)
          * broadcastTo S2048x1024 (truncf .bf16 rstd bitsLt_bf16_f32) broadcasts_S2048x1_S2048x1024 (ix2 r q)
        + (broadcastTo S2048x1024 (shapeCast S1x1024 b shapeCasts_S1x1024_S1x1024) broadcasts_S1x1024_S2048x1024 (ix2 r q)
          - broadcastTo S2048x1024 (shapeCast S1x1024 g shapeCasts_S1x1024_S1x1024) broadcasts_S1x1024_S2048x1024 (ix2 r q)
            * broadcastTo S2048x1024 (truncf .bf16 (mulf mean rstd) bitsLt_bf16_f32) broadcasts_S2048x1_S2048x1024 (ix2 r q)) : EReal) := rfl
  rw [h, hgx, hrow, hrow, hcol, hcol]
  rfl

end Cert.Value

end
-- ==== Proof.Moments.lean ====
/-
# The arithmetic of the normalisation

Over the reals the mean of squares less the square of the mean is the mean squared deviation, and the kernel's folded affine form
`g x r + (b - g (m r))` is the reference's `g (x - m) / s + b`. Stated at extended reals that are reals, `b` being any.
-/
module

public import Idealize.ShloMosaic.PureOps.Ideal.Laws

@[expose] public section

noncomputable section

namespace Cert.Value

open Idealize.ShloMosaic

/-! ## Literals -/

theorem lit_length : Ideal.ofBits .f32 0x47000000#32 = ((32768 : ℝ) : EReal) := by
  simp [Ideal.ofBits, Ideal.ieee, -EReal.coe_mul]
  norm_num

theorem lit_eps : ∃ e : ℝ, 0 < e ∧ Ideal.ofBits .f32 0x3727C5AC#32 = (e : EReal) := by
  refine ⟨(2 ^ 23 + 2606508 : ℕ) * (2 : ℝ) ^ (-40 : Int), by positivity, ?_⟩
  simp [Ideal.ofBits, Ideal.ieee]

theorem lit_top : Ideal.ofBits .bf16 0x7F80#16 = (⊤ : EReal) := by
  simp [Ideal.ofBits, Ideal.ieee]

/-! ## Sums and quotients of reals -/

theorem sum_real {ι : Type} (s : Finset ι) (f : ι → ℝ) : ∑ i ∈ s, (f i : EReal) = ((∑ i ∈ s, f i : ℝ) : EReal) := by
  classical
  refine Finset.induction_on s (by simp) fun a t ha ih => ?_
  rw [Finset.sum_insert ha, Finset.sum_insert ha, ih, EReal.coe_add]

theorem div_real (a : ℝ) {b : ℝ} (hb : b ≠ 0) : Ideal.div (a : EReal) (b : EReal) = ((a / b : ℝ) : EReal) := by
  rw [Ideal.div_coe hb, ← EReal.coe_mul, mul_one_div]

theorem sqrt_real {v : ℝ} (hv : 0 < v) : Ideal.sqrt (v : EReal) = (Real.sqrt v : EReal) := by
  rw [Ideal.sqrt_coe, if_neg (not_lt.2 hv.le)]

theorem rsqrt_real {v : ℝ} (hv : 0 < v) : Ideal.rsqrt (v : EReal) = (((Real.sqrt v)⁻¹ : ℝ) : EReal) := by
  rw [Ideal.rsqrt_coe, if_neg (not_lt.2 hv.le), if_neg hv.ne']

/-! ## The two forms of the variance -/

/-- The mean of a row. -/
def rowMean (x : Fin 32768 → ℝ) : ℝ := (∑ k, x k) / 32768
/-- The mean squared deviation of a row. -/
def rowVar (x : Fin 32768 → ℝ) : ℝ := (∑ k, (x k - rowMean x) * (x k - rowMean x)) / 32768

theorem rowVar_nonneg (x : Fin 32768 → ℝ) : 0 ≤ rowVar x :=
  div_nonneg (Finset.sum_nonneg fun k _ => mul_self_nonneg _) (by norm_num)

/-- The mean of the squares less the square of the mean is the mean squared deviation. -/
theorem rowVar_eq (x : Fin 32768 → ℝ) : (∑ k, x k * x k) / 32768 - rowMean x * rowMean x = rowVar x := by
  have hs : ∑ k, x k = 32768 * rowMean x := by unfold rowMean; ring
  have h : ∑ k, (x k - rowMean x) * (x k - rowMean x) = ∑ k, x k * x k - 2 * rowMean x * ∑ k, x k + 32768 * (rowMean x * rowMean x) := by
    have e : ∀ k, (x k - rowMean x) * (x k - rowMean x) = x k * x k - 2 * rowMean x * x k + rowMean x * rowMean x := fun k => by ring
    simp only [e, Finset.sum_add_distrib, Finset.sum_sub_distrib, ← Finset.mul_sum, Finset.sum_const, Finset.card_univ, Fintype.card_fin,
      nsmul_eq_mul]
    norm_num
    ring
  unfold rowVar
  rw [h, hs]
  ring

/-! ## The two forms of the result -/

theorem affine_eq (g x mu s : ℝ) (b : EReal) (hs : s ≠ 0) :
    (g : EReal) * x * ((s⁻¹ : ℝ) : EReal) + (b - g * (mu * ((s⁻¹ : ℝ) : EReal)))
      = Ideal.div (g * ((x : EReal) - mu)) (s : EReal) + b := by
  have h : (g : EReal) * ((x : EReal) - mu) = ((g * (x - mu) : ℝ) : EReal) := by
    rw [← EReal.coe_sub, ← EReal.coe_mul]
  rw [h, div_real _ hs, sub_eq_add_neg, ← EReal.coe_mul, ← EReal.coe_mul, ← EReal.coe_mul, ← EReal.coe_mul, ← EReal.coe_neg,
    add_left_comm, ← EReal.coe_add, add_comm]
  congr 2
  field_simp
  ring

end Cert.Value

end
-- ==== Proof.RefRead.lean ====
/-
# The reference's result at an index
-/
module

public import proofs.«01_k».proof.Proof.Gen.ReferenceIdeal.Run
public import proofs.«01_k».proof.Proof.Gen.ReferenceIdeal.Read
public import proofs.«01_k».proof.Proof.Moments
public import Idealize.ShloMosaic.Lib.Pointwise.Index

@[expose] public section

noncomputable section

namespace Cert.Value

open Cert.ReferenceIdeal Cert.ReferenceIdeal.Gen Cert.ReferenceIdeal.Read
open Idealize.ShloMosaic Idealize.ShloMosaic.TcCoe Idealize.SL.Sem

/-- The reference's mean of row `r`. -/
theorem mean_apply (x : FVec Ideal S2048x32768 .bf16) (r : Fin 2048) (X : Fin 32768 → ℝ) (hx : ∀ k, x (ix2 r k) = (X k : EReal)) :
    (val_main_v4 (F := Ideal) x (ix2 r 0) : EReal) = (rowMean X : EReal) := by
  rw [val_main_v4_apply, val_main_v2_apply, val_main_v1_apply, val_main_v3_apply]
  show Ideal.div (Ideal.ofBits .f32 0x00000000#32 + ∑ k : Fin 32768, (x (idx_main_v1 (idx_main_v2 (ix2 r 0)) k) : EReal))
    (Ideal.ofBits .f32 0x47000000#32) = _
  have e : ∀ k : Fin 32768, (x (idx_main_v1 (idx_main_v2 (ix2 r 0)) k) : EReal) = (X k : EReal) := fun k => by
    have hi : idx_main_v1 (idx_main_v2 (ix2 r 0)) k = ix2 r k := Shape.idx_ext₂ rfl rfl
    rw [hi, hx k]
  simp only [e]
  rw [Ideal.ofBits_zero_f32, zero_add, sum_real, lit_length, div_real _ (by norm_num)]
  rfl

theorem mean'_apply (x : FVec Ideal S2048x32768 .bf16) (i : S2048x1.Idx) :
    (val_main_call0_v4 (F := Ideal) x i : EReal) = val_main_v4 (F := Ideal) x i := rfl

/-- The reference's variance of row `r`. -/
theorem var_apply (x : FVec Ideal S2048x32768 .bf16) (r : Fin 2048) (X : Fin 32768 → ℝ) (hx : ∀ k, x (ix2 r k) = (X k : EReal)) :
    (val_main_v6 (F := Ideal) x (ix2 r 0) : EReal) = (rowVar X : EReal) := by
  have hn : ∀ i, (val_main_call0_v9 (F := Ideal) i : EReal) = ((32768 : ℝ) : EReal) := fun i => by
    show (Ideal.ofBits .f32 0x47000000#32 - (((0#32 : BitVec 32).toInt : ℝ) : EReal) : EReal) = _
    rw [lit_length]
    simp
  have hc : ∀ i, val_main_call0_v15 (F := Ideal) i = 1#1 := fun i => by
    rw [val_main_call0_v15_apply, Ideal.cmpf_def]
    show BitVec.ofBool (decide ((Ideal.ofBits .f32 0x00000000#32 : EReal) < val_main_call0_v9 (F := Ideal) i)) = _
    rw [hn, Ideal.ofBits_zero_f32, decide_eq_true (by norm_num)]
    rfl
  have hsel : val_main_v6 (F := Ideal) x (ix2 r 0) = val_main_call0_v14 (F := Ideal) x (ix2 r 0) := by
    show (if broadcastInDim S2048x1 ![] bcast_S_S2048x1 (val_main_call0_v15 (F := Ideal)) (ix2 r 0) = 1 then _ else _) = _
    exact if_pos (hc _)
  rw [hsel, val_main_call0_v14_apply, val_main_call0_v13_apply, val_main_call0_v11_apply, val_main_call0_v10_apply, val_main_call0_v12_apply]
  have e : ∀ k : Fin 32768, (val_main_call0_v7 (F := Ideal) x (idx_main_call0_v10 (idx_main_call0_v11 (ix2 r 0)) k) : EReal)
      = (((X k - rowMean X) * (X k - rowMean X) : ℝ) : EReal) := fun k => by
    have hi : idx_main_call0_v10 (idx_main_call0_v11 (ix2 r 0)) k = ix2 r k := Shape.idx_ext₂ rfl rfl
    have hj : idx_main_call0_v5 (ix2 r k) = ix2 r 0 := Shape.idx_ext₂ rfl rfl
    rw [hi, val_main_call0_v7_apply, val_main_call0_v6_apply, val_main_call0_v5_apply, hj, mean'_apply, val_main_call0_v0_apply]
    show ((x (ix2 r k) - val_main_v4 (F := Ideal) x (ix2 r 0)) * (x (ix2 r k) - val_main_v4 (F := Ideal) x (ix2 r 0)) : EReal) = _
    rw [mean_apply x r X hx, hx k, ← EReal.coe_sub, ← EReal.coe_mul]
  show Ideal.div (Ideal.ofBits .f32 0x00000000#32 + ∑ k : Fin 32768, (val_main_call0_v7 (F := Ideal) x (idx_main_call0_v10 (idx_main_call0_v11 (ix2 r 0)) k) : EReal))
    (val_main_call0_v9 (F := Ideal) _) = _
  simp only [e]
  rw [Ideal.ofBits_zero_f32, zero_add, sum_real, hn, div_real _ (by norm_num)]
  rfl

/-- The reference's result at row `r`, column `k`. -/
theorem ref_apply (x : FVec Ideal S2048x32768 .bf16) (g b : FVec Ideal S1x32768 .bf16) (r : Fin 2048) (k : Fin 32768)
    (X : Fin 32768 → ℝ) (hx : ∀ k, x (ix2 r k) = (X k : EReal)) :
    (val_main_v19 (F := Ideal) x g b (ix2 r k) : EReal)
      = Ideal.div (g (ix2 0 k) * ((X k : EReal) - (rowMean X : EReal)))
          (Ideal.sqrt ((rowVar X : EReal) + Ideal.ofBits .f32 0x3727C5AC#32)) + b (ix2 0 k) := by
  have h12 : idx_main_v12 (ix2 r k) = ix2 r 0 := Shape.idx_ext₂ rfl rfl
  have h14 : idx_main_v14 (ix2 r k) = ix2 0 k := Shape.idx_ext₂ rfl rfl
  have h16 : idx_main_v16 (ix2 r k) = ix2 r 0 := Shape.idx_ext₂ rfl rfl
  have h18 : idx_main_v18 (ix2 r k) = ix2 0 k := Shape.idx_ext₂ rfl rfl
  rw [val_main_v19_apply, val_main_v18_apply, val_main_v17_apply, val_main_v16_apply, val_main_v15_apply, val_main_v14_apply,
    val_main_v13_apply, val_main_v12_apply, h12, h14, h16, h18, val_main_v11_apply, val_main_v10_apply, val_main_v9_apply,
    val_main_v8_apply, val_main_v7_apply, val_main_v5_apply]
  show (Ideal.div (g (ix2 0 k) * (x (ix2 r k) - val_main_v4 (F := Ideal) x (ix2 r 0)))
    (Ideal.sqrt (val_main_v6 (F := Ideal) x (ix2 r 0) + Ideal.ofBits .f32 0x3727C5AC#32)) + b (ix2 0 k) : EReal) = _
  rw [mean_apply x r X hx, var_apply x r X hx, hx k]

end Cert.Value

end
-- ==== Proof.Finite.lean ====
/-
# The precondition read back

`finite` says that every element of `x` and of `gamma` is smaller than infinity in absolute value: each is a real number.
-/
module

public import proofs.«01_k».proof.Proof.Gen.Pre_finite_KernelIdeal
public import proofs.«01_k».proof.Proof.Moments
public import Idealize.ShloMosaic.Lib.ReduceAll

@[expose] public section

noncomputable section

namespace Cert.Value

open Cert.Pre_finite_KernelIdeal Cert.Pre_finite_KernelIdeal.Gen Idealize.ShloMosaic

/-- An extended real below infinity in absolute value is a real. -/
theorem real_of_abs_lt (x : EReal) (h : max x (-x) < ⊤) : ∃ r : ℝ, x = (r : EReal) := by
  induction x with
  | bot => simp at h
  | coe r => exact ⟨r, rfl⟩
  | top => simp at h

theorem real_of_cmp (x : EReal) (h : Ideal.cmp .olt (max x (-x)) (Ideal.ofBits .bf16 0x7F80#16) = 1#1) : ∃ r : ℝ, x = (r : EReal) := by
  refine real_of_abs_lt x ?_
  rw [lit_top] at h
  by_contra hx
  have h' : BitVec.ofBool (decide (max x (-x) < ⊤)) = 1#1 := h
  rw [decide_eq_false hx] at h'
  exact absurd h' (by decide)

instance : Subsingleton S_.Idx := ⟨fun a b => funext fun k => k.elim0⟩

theorem real_of_finite (x : FVec Ideal S2048x1024 .bf16) (g b : FVec Ideal S1x1024 .bf16) (h : fn (F := Ideal) x g b = fun _ => 1#1) :
    (∀ i, ∃ r : ℝ, (x i : EReal) = (r : EReal)) ∧ ∀ i, ∃ r : ℝ, (g i : EReal) = (r : EReal) := by
  have h0 := IntOp.andi_eq_one.1 (congrFun h (Shape.Idx.first h_S_))
  exact ⟨fun i => real_of_cmp _ (Host.reduce_andi_all _ _ _ _ _ h0.1 i), fun i => real_of_cmp _ (Host.reduce_andi_all _ _ _ _ _ h0.2 i)⟩

end Cert.Value

end
-- ==== Proof.Value.lean ====
/-
# The value

Block `c` of the reference's layer normalisation is what device `c` of the kernel leaves.
-/
module

public import proofs.«01_k».proof.Defs
public import proofs.«01_k».proof.Proof.LaunchKernelIdeal
public import proofs.«01_k».proof.Proof.Gen.ReferenceIdeal.Run
public import proofs.«01_k».proof.Proof.Gen.ReferenceIdeal.Read
public import proofs.«01_k».proof.Proof.KernelRead
public import proofs.«01_k».proof.Proof.RefRead
public import proofs.«01_k».proof.Proof.Finite

@[expose] public section

noncomputable section

namespace Cert.Value

open Idealize.ShloMosaic Idealize.ShloMosaic.TcCoe Idealize.SL.Sem

/-! ## The columns of a device -/

/-- Column `q` of device `d`'s block, in the whole array. -/
def col (d : Fin 32) (q : Fin 1024) : Fin 32768 := ⟨d.val * 1024 + q.val, by omega⟩

theorem exists_col (k : Fin 32768) : ∃ d q, k = col d q :=
  ⟨⟨k.val / 1024, by omega⟩, ⟨k.val % 1024, by omega⟩, Fin.ext (Nat.div_add_mod' k.val 1024).symm⟩

/-- A sum over the devices and their columns is the sum over the whole row. -/
theorem sum_col (f : Fin 32768 → ℝ) : ∑ d : Fin 32, ∑ q : Fin 1024, f (col d q) = ∑ k, f k := by
  rw [← Fintype.sum_prod_type' (f := fun d q => f (col d q))]
  refine Fintype.sum_equiv (finProdFinEquiv (m := 32) (n := 1024)) _ _ fun p => congrArg f (Fin.ext ?_)
  show p.1.val * 1024 + p.2.val = p.2.val + 1024 * p.1.val
  omega

theorem sum_col_real (F : Fin 32 → Fin 1024 → EReal) (f : Fin 32768 → ℝ) (h : ∀ d q, F d q = (f (col d q) : EReal)) :
    ∑ d : Fin 32, ∑ q : Fin 1024, F d q = ((∑ k, f k : ℝ) : EReal) := by
  simp only [h, sum_real, sum_col]

/-! ## One element -/

section

open Cert.KernelIdeal Cert.KernelIdeal.Gen Cert.KernelIdeal.Run

variable (xs : Dev nD → Vec Ideal S2048x1024 .bf16) (r : Fin 2048) (X : Fin 32768 → ℝ)
  (hX : ∀ d q, (xs d (ix2 r q) : EReal) = (X (col d q) : EReal))

include hX

theorem kernel_mean (c : Dev nD) : (meanOf (slots xs c) (ix2 r 0) : EReal) = (rowMean X : EReal) := by
  rw [meanOf_apply, sum_col_real _ X hX, lit_length, div_real _ (by norm_num)]
  rfl

theorem kernel_rstd (c : Dev nD) :
    (rstdOf (slots xs c) (ix2 r 0) : EReal) = Ideal.rsqrt ((rowVar X : EReal) + Ideal.ofBits .f32 0x3727C5AC#32) := by
  rw [rstdOf_apply, kernel_mean xs r X hX, sqOf_apply,
    sum_col_real _ (fun k => X k * X k) (fun d q => by rw [hX d q, ← EReal.coe_mul]), lit_length, div_real _ (by norm_num),
    ← EReal.coe_mul, ← EReal.coe_sub, rowVar_eq]

/-- What the kernel leaves at an element is what the reference has there. -/
theorem elem_eq (x : FVec Ideal Cert.ReferenceIdeal.S2048x32768 .bf16) (g b : FVec Ideal Cert.ReferenceIdeal.S1x32768 .bf16)
    (hx : ∀ k, (x (ix2 r k) : EReal) = (X k : EReal)) (gs bs : Vec Ideal S1x1024 .bf16) (c : Dev nD) (q : Fin 1024) (G : ℝ)
    (hg : (g (ix2 0 (col c q)) : EReal) = (G : EReal)) (hgs : (gs (ix2 0 q) : EReal) = g (ix2 0 (col c q)))
    (hbs : (bs (ix2 0 q) : EReal) = b (ix2 0 (col c q))) :
    k0_pay1 (meanOf (slots xs c)) (rstdOf (slots xs c)) gs bs (k0_pay5 (k0_pay2 (xs c)) gs) (ix2 r q)
      = Cert.ReferenceIdeal.Read.val_main_v19 (F := Ideal) x g b (ix2 r (col c q)) := by
  obtain ⟨e, he, hlit⟩ := lit_eps
  have hv : 0 < rowVar X + e := add_pos_of_nonneg_of_pos (rowVar_nonneg X) he
  refine (pay1_apply _ _ gs bs (xs c) r q).trans ((?_ : _ = _).trans (ref_apply x g b r (col c q) X hx).symm)
  rw [kernel_mean xs r X hX, kernel_rstd xs r X hX, hgs, hbs, hg, hX, hlit, ← EReal.coe_add, rsqrt_real hv, sqrt_real hv]
  exact affine_eq _ _ _ _ _ (Real.sqrt_ne_zero'.2 hv)

end

/-! ## The result -/

/-- Device `c` leaves block `c` of the reference's result. -/
theorem out_eq_block (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Pre_KernelIdeal_finite_KernelIdeal (hPre_finite_KernelIdeal := Cert.Pre_finite_KernelIdeal.Gen.facts) m)
    (hagree : ∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1, 1024]⟩ ⟨2, ![1, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1, 1024]⟩ ⟨2, ![1, 32768]⟩ 1 32 c (m' (((0 : Dev Cert.ReferenceIdeal.nD).tc : Thread Cert.ReferenceIdeal.nD Cert.ReferenceIdeal.τ).loc Cert.ReferenceIdeal.main_arg2)))
    (c : Dev Cert.KernelIdeal.nD) :
    Cert.KernelIdeal.Run.outAt m ρ c = Layout.block ⟨2, ![2048, 1024]⟩ ⟨2, ![2048, 32768]⟩ 1 32 c
      (Cert.ReferenceIdeal.Read.val_main_v19 (F := Ideal)
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))) := by
  have hx : ∀ (d : Dev Cert.KernelIdeal.nD) (r : Fin 2048) (q : Fin 1024), Cert.KernelIdeal.Run.xstg m ρ d (ix2 r q)
      = m' (((0 : Dev Cert.ReferenceIdeal.nD).tc : Thread Cert.ReferenceIdeal.nD Cert.ReferenceIdeal.τ).loc Cert.ReferenceIdeal.main_arg0)
        (ix2 r (col d q)) := fun d r q => by
    rw [Cert.KernelIdeal.Run.xstg_eq, (hagree d).1]
    exact congrArg (m' _) (Shape.idx_ext₂ rfl rfl)
  have hg : ∀ (d : Dev Cert.KernelIdeal.nD) (q : Fin 1024), Cert.KernelIdeal.Run.gstg m ρ d (ix2 0 q)
      = m' (((0 : Dev Cert.ReferenceIdeal.nD).tc : Thread Cert.ReferenceIdeal.nD Cert.ReferenceIdeal.τ).loc Cert.ReferenceIdeal.main_arg1)
        (ix2 0 (col d q)) := fun d q => by
    rw [Cert.KernelIdeal.Run.gstg_eq, (hagree d).2.1]
    exact congrArg (m' _) (Shape.idx_ext₂ rfl rfl)
  have hb : ∀ (d : Dev Cert.KernelIdeal.nD) (q : Fin 1024), Cert.KernelIdeal.Run.bstg m ρ d (ix2 0 q)
      = m' (((0 : Dev Cert.ReferenceIdeal.nD).tc : Thread Cert.ReferenceIdeal.nD Cert.ReferenceIdeal.τ).loc Cert.ReferenceIdeal.main_arg2)
        (ix2 0 (col d q)) := fun d q => by
    rw [Cert.KernelIdeal.Run.bstg_eq, (hagree d).2.2]
    exact congrArg (m' _) (Shape.idx_ext₂ rfl rfl)
  have hfin := fun d => real_of_finite _ _ _ (hpre d)
  funext j
  obtain ⟨r, q, rfl⟩ : ∃ (r : Fin 2048) (q : Fin 1024), j = ix2 r q := ⟨j 0, j 1, eq_ix2 j⟩
  have hreal : ∀ k, ∃ t : ℝ, (m' (((0 : Dev Cert.ReferenceIdeal.nD).tc : Thread Cert.ReferenceIdeal.nD Cert.ReferenceIdeal.τ).loc
      Cert.ReferenceIdeal.main_arg0) (ix2 r k) : EReal) = (t : EReal) := fun k => by
    obtain ⟨d, q, rfl⟩ := exists_col k
    obtain ⟨t, ht⟩ := (hfin d).1 (ix2 r q)
    exact ⟨t, (hx d r q).symm.trans ((congrFun (Cert.KernelIdeal.Run.xstg_eq m ρ d) _).trans ht)⟩
  choose X hX using hreal
  obtain ⟨G, hG⟩ := (hfin c).2 (ix2 0 q)
  refine (elem_eq (Cert.KernelIdeal.Run.xstg m ρ) r X (fun d q => (hx d r q).trans (hX _)) _ _ _ hX
    (Cert.KernelIdeal.Run.gstg m ρ c) (Cert.KernelIdeal.Run.bstg m ρ c) c q G
    ((hg c q).symm.trans ((congrFun (Cert.KernelIdeal.Run.gstg_eq m ρ c) _).trans hG)) (hg c q) (hb c q)).trans ?_
  exact congrArg (Cert.ReferenceIdeal.Read.val_main_v19 (F := Ideal) _ _ _) (Shape.idx_ext₂ rfl rfl)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Value
public import proofs.«01_k».proof.Proof.LaunchKernelIdeal
public import proofs.«01_k».proof.Proof.LaunchKernel
public import Idealize.ShloMosaic.Adequacy
public import Idealize.ShloMosaic.Lib.Claim
public import Idealize.ShloMosaic.Init

@[expose] public section

noncomputable section

namespace Cert.Proof

open Idealize.ShloMosaic Idealize.ShloMosaic.TcCoe Idealize.SL.Sem

/-- The kernel at bit patterns leaves its arguments alone and every counter at zero. -/
theorem kernel_quiet : quiescent_Kernel (hKernel := Cert.Kernel.Gen.facts) := fun m g _ =>
  (θ_run _ _ _).mono (fun _ h => ⟨fun c => (h.1 c).2, h.2⟩) (Cert.Kernel.Run.run_named m g)

/-- The kernel over the reals leaves its arguments alone and every counter at zero, whatever they hold. -/
theorem ideal_quiet (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run _ _ _).mono (fun _ h => ⟨fun c => (h.1 c).2, h.2⟩) (Cert.KernelIdeal.Run.run_named m g)

/-- The reference leaves its arguments alone and every counter at zero. -/
theorem reference_quiet : quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- Block `c` of the reference's result is what device `c` of the kernel computes. -/
theorem kernel_computes_reference : algebraic_KernelIdeal_ReferenceIdeal_pre_finite_KernelIdeal
    (hKernelIdeal := Cert.KernelIdeal.Gen.facts) (hReferenceIdeal := Cert.ReferenceIdeal.Gen.facts)
    (hPre_finite_KernelIdeal := Cert.Pre_finite_KernelIdeal.Gen.facts) := by
  intro m g m' g' hpre hagree
  refine ⟨_, (θ_run _ _ _).mono (fun _ h c => ⟨(h.1 c).1.trans (Cert.Value.out_eq_block m g m' hpre hagree c), (h.1 c).2⟩)
    (Cert.KernelIdeal.Run.run_named m g),
    (θ_run _ _ _).mono (fun _ h => ⟨(h 0).1.trans (Cert.ReferenceIdeal.Read.val_main_v19_eq _ _ _), (h 0).2⟩) (Cert.ReferenceIdeal.Value.run m' g')⟩

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, kernel_quiet, fun m g _ => ideal_quiet m g, fun m g _ => ideal_quiet m g,
    reference_quiet, fun m g _ => reference_quiet m g trivial, trivial, kernel_computes_reference⟩

end Cert.Proof

end
